-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S32x128 Cert.KernelIdeal.S16x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S12x128x2560 : Shape := ⟨3, ![12, 128, 2560]⟩
abbrev S6912x80 : Shape := ⟨2, ![6912, 80]⟩
abbrev S6912 : Shape := ⟨1, ![6912]⟩
abbrev S1536x80x32 : Shape := ⟨3, ![1536, 80, 32]⟩
abbrev S_ : Shape := ⟨0, ![]⟩
abbrev S1536x80 : Shape := ⟨2, ![1536, 80]⟩

class Facts : Prop where
  bitsLt_bf16_f32 : FTy.bits .bf16 < FTy.bits .f32
  shapeCasts_S12x128x2560_S1536x80x32 : S12x128x2560.ShapeCasts S1536x80x32
  reducesTo_S1536x80x32_S1536x80_d2 : S1536x80x32.ReducesTo [2] S1536x80
  h_S_ : 0 < S_.numel
  bcast_S_S1536x80 : S_.BroadcastsInDim S1536x80 (![] : Fin 0 → Fin S1536x80.rank)
  reducesTo_S1536x80_S_d0_1 : S1536x80.ReducesTo [0, 1] S_

variable [Facts]

def fn {F : FTy → Type} [FloatOps F] (main_arg0 : FVec F S12x128x2560 .bf16) (main_arg1 : IVec S6912x80 32) (main_arg2 : IVec S6912x80 32) (main_arg3 : FVec F S6912 .bf16) : IVec S_ 1 :=
  let main_v0 : FVec F S12x128x2560 .f32 := (extf .f32 · bitsLt_bf16_f32) main_arg0
  let main_v1 : FVec F S1536x80x32 .f32 := shapeCast S1536x80x32 main_v0 shapeCasts_S12x128x2560_S1536x80x32
  let main_v2 : FVec F S1536x80x32 .f32 := Host.absf main_v1
  let main_cst : FVec F S_ .f32 := constant S_ .f32 0xFF800000#32
  let main_v3 : FVec F S1536x80 .f32 := (fun x v => Host.reduce FloatOps.maximumf x v reducesTo_S1536x80x32_S1536x80_d2 h_S_) main_v2 main_cst
  let main_cst_0 : FVec F S_ .f32 := constant S_ .f32 0x00000000#32
  let main_v4 : FVec F S1536x80 .f32 := broadcastInDim S1536x80 ![] bcast_S_S1536x80 main_cst_0
  let main_v5 : IVec S1536x80 1 := cmpf .oeq main_v3 main_v4
  let main_cst_1 : FVec F S_ .f32 := constant S_ .f32 0x04E00000#32
  let main_v6 : FVec F S1536x80 .f32 := broadcastInDim S1536x80 ![] bcast_S_S1536x80 main_cst_1
  let main_v7 : IVec S1536x80 1 := cmpf .oge main_v3 main_v6
  let main_cst_2 : FVec F S_ .f32 := constant S_ .f32 0x7F7F0000#32
  let main_v8 : FVec F S1536x80 .f32 := broadcastInDim S1536x80 ![] bcast_S_S1536x80 main_cst_2
  let main_v9 : IVec S1536x80 1 := cmpf .ole main_v3 main_v8
  let main_v10 : IVec S1536x80 1 := andi main_v7 main_v9
  let main_v11 : IVec S1536x80 1 := ori main_v5 main_v10
  let main_c : IVec S_ 1 := constantI S_ 1 1#1
  let main_v12 : IVec S_ 1 := (fun x v => Host.reduce IntOp.andi x v reducesTo_S1536x80_S_d0_1 h_S_) main_v11 main_c
  main_v12
-- ==== Kernel.lean ====
abbrev S12x128x2560 : Shape := ⟨3, ![12, 128, 2560]⟩
abbrev S6912x80 : Shape := ⟨2, ![6912, 80]⟩
abbrev S6912 : Shape := ⟨1, ![6912]⟩
abbrev S1536x2560 : Shape := ⟨2, ![1536, 2560]⟩
abbrev S1x6912 : Shape := ⟨2, ![1, 6912]⟩
abbrev S1536x6912 : Shape := ⟨2, ![1536, 6912]⟩
abbrev S1536x80 : Shape := ⟨2, ![1536, 80]⟩
abbrev S256x80 : Shape := ⟨2, ![256, 80]⟩
abbrev S1x256 : Shape := ⟨2, ![1, 256]⟩
abbrev S1536x256 : Shape := ⟨2, ![1536, 256]⟩
abbrev S2x80x256 : Shape := ⟨3, ![2, 80, 256]⟩
abbrev S2560x256 : Shape := ⟨2, ![2560, 256]⟩
abbrev S32x128 : Shape := ⟨2, ![32, 128]⟩
abbrev S16x128 : Shape := ⟨2, ![16, 128]⟩
abbrev S32x128x1 : Shape := ⟨3, ![32, 128, 1]⟩
abbrev S32x80 : Shape := ⟨2, ![32, 80]⟩
abbrev S80x256 : Shape := ⟨2, ![80, 256]⟩
abbrev S1x80x256 : Shape := ⟨3, ![1, 80, 256]⟩
abbrev S8x256 : Shape := ⟨2, ![8, 256]⟩
abbrev S1x1x256 : Shape := ⟨3, ![1, 1, 256]⟩
abbrev S16x256 : Shape := ⟨2, ![16, 256]⟩

abbrev nBuf : Space → Nat
  | .hbm => 9
  | .vmem => 14
  | .smem => 0
  | _ => 0

abbrev bufTy : (tb : Table) → Fin (tcTables nBuf tb) → BufTy
  | .hbm, ⟨0, _⟩ => ⟨S12x128x2560, .bf16⟩
  | .hbm, ⟨1, _⟩ => ⟨S6912x80, .i32⟩
  | .hbm, ⟨2, _⟩ => ⟨S6912x80, .i32⟩
  | .hbm, ⟨3, _⟩ => ⟨S6912, .bf16⟩
  | .hbm, ⟨4, _⟩ => ⟨S1536x2560, .bf16⟩
  | .hbm, ⟨5, _⟩ => ⟨S1x6912, .bf16⟩
  | .hbm, ⟨6, _⟩ => ⟨S1536x6912, .bf16⟩
  | .hbm, ⟨7, _⟩ => ⟨S1536x2560, .fp8e4m3⟩
  | .hbm, ⟨8, _⟩ => ⟨S1536x80, .f32⟩
  | .local _ .vmem, ⟨0, _⟩ => ⟨S1536x2560, .bf16⟩
  | .local _ .vmem, ⟨1, _⟩ => ⟨S256x80, .i32⟩
  | .local _ .vmem, ⟨2, _⟩ => ⟨S256x80, .i32⟩
  | .local _ .vmem, ⟨3, _⟩ => ⟨S256x80, .i32⟩
  | .local _ .vmem, ⟨4, _⟩ => ⟨S256x80, .i32⟩
  | .local _ .vmem, ⟨5, _⟩ => ⟨S1x256, .bf16⟩
  | .local _ .vmem, ⟨6, _⟩ => ⟨S1x256, .bf16⟩
  | .local _ .vmem, ⟨7, _⟩ => ⟨S1536x256, .bf16⟩
  | .local _ .vmem, ⟨8, _⟩ => ⟨S1536x256, .bf16⟩
  | .local _ .vmem, ⟨9, _⟩ => ⟨S1536x2560, .fp8e4m3⟩
  | .local _ .vmem, ⟨10, _⟩ => ⟨S1536x80, .f32⟩
  | .local _ .vmem, ⟨11, _⟩ => ⟨S1536x2560, .bf16⟩
  | .local _ .vmem, ⟨12, _⟩ => ⟨S2x80x256, .i32⟩
  | .local _ .vmem, ⟨13, _⟩ => ⟨S2560x256, .bf16⟩
  | _, _ => ⟨S12x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [BitOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1065 : BitVec 32 := 0#32
  let c48_i32 : BitVec 32 := 48#32
  let v2613 : BitVec 32 := Scalar.addi c0_i32_1065 c48_i32
  let c1_i32_1066 : BitVec 32 := 1#32
  ⟨c0_i32_1065, v2613, c1_i32_1066⟩
def k0_mult1 (k0_t1 : Fin k0_t1_loop.trips) : BitVec 32 :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  v2615
def k0_off1 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2617 : Index := Scalar.indexCast v2616
  let c0_1069 : Index := 0#32
  ![v2617.toNat, 0]
def k0_off2 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2620 : Index := Scalar.indexCast v2616
  let c128_1070 : Index := 128#32
  ![v2620.toNat, 128]
def k0_off3 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2623 : Index := Scalar.indexCast v2616
  let c256_1071 : Index := 256#32
  ![v2623.toNat, 256]
def k0_off4 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2626 : Index := Scalar.indexCast v2616
  let c384_1072 : Index := 384#32
  ![v2626.toNat, 384]
def k0_off5 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2629 : Index := Scalar.indexCast v2616
  let c512_1073 : Index := 512#32
  ![v2629.toNat, 512]
def k0_off6 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2632 : Index := Scalar.indexCast v2616
  let c640_1074 : Index := 640#32
  ![v2632.toNat, 640]
def k0_off7 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2635 : Index := Scalar.indexCast v2616
  let c768_1075 : Index := 768#32
  ![v2635.toNat, 768]
def k0_off8 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2638 : Index := Scalar.indexCast v2616
  let c896_1076 : Index := 896#32
  ![v2638.toNat, 896]
def k0_off9 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2641 : Index := Scalar.indexCast v2616
  let c1024_1077 : Index := 1024#32
  ![v2641.toNat, 1024]
def k0_off10 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2644 : Index := Scalar.indexCast v2616
  let c1152_1078 : Index := 1152#32
  ![v2644.toNat, 1152]
def k0_off11 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2647 : Index := Scalar.indexCast v2616
  let c1280_1079 : Index := 1280#32
  ![v2647.toNat, 1280]
def k0_off12 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2650 : Index := Scalar.indexCast v2616
  let c1408_1080 : Index := 1408#32
  ![v2650.toNat, 1408]
def k0_off13 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2653 : Index := Scalar.indexCast v2616
  let c1536_1081 : Index := 1536#32
  ![v2653.toNat, 1536]
def k0_off14 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2656 : Index := Scalar.indexCast v2616
  let c1664_1082 : Index := 1664#32
  ![v2656.toNat, 1664]
def k0_off15 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2659 : Index := Scalar.indexCast v2616
  let c1792_1083 : Index := 1792#32
  ![v2659.toNat, 1792]
def k0_off16 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2662 : Index := Scalar.indexCast v2616
  let c1920_1084 : Index := 1920#32
  ![v2662.toNat, 1920]
def k0_off17 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2665 : Index := Scalar.indexCast v2616
  let c2048_1085 : Index := 2048#32
  ![v2665.toNat, 2048]
def k0_off18 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2668 : Index := Scalar.indexCast v2616
  let c2176_1086 : Index := 2176#32
  ![v2668.toNat, 2176]
def k0_off19 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2671 : Index := Scalar.indexCast v2616
  let c2304_1087 : Index := 2304#32
  ![v2671.toNat, 2304]
def k0_off20 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v2674 : Index := Scalar.indexCast v2616
  let c2432_1088 : Index := 2432#32
  ![v2674.toNat, 2432]
def k0_off21 (k0_t1 : Fin k0_t1_loop.trips) : Fin 2 → Nat :=
  let c0_i32_1068 : BitVec 32 := 0#32
  let c0_i32_1065 : BitVec 32 := 0#32
  let c1_i32_1066 : BitVec 32 := 1#32
  let arg11 : BitVec 32 := Scf.iv c0_i32_1065 c1_i32_1066 k0_t1
  let c32_i32 : BitVec 32 := 32#32
  let v2614 : BitVec 32 := Scalar.muli arg11 c32_i32
  let v2615 : BitVec 32 := Scalar.addi c0_i32_1068 v2614
  let v2616 : BitVec 32 := v2615
  let v4114 : Index := Scalar.indexCast v2616
  let c0_1473 : Index := 0#32
  ![v4114.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x80 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x80 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F]
-- ==== ReferenceIdeal.lean ====
abbrev S12x128x2560 : Shape := ⟨3, ![12, 128, 2560]⟩
abbrev S6912x80 : Shape := ⟨2, ![6912, 80]⟩
abbrev S6912 : Shape := ⟨1, ![6912]⟩
abbrev S1536x2560 : Shape := ⟨2, ![1536, 2560]⟩
abbrev S1x6912 : Shape := ⟨2, ![1, 6912]⟩
abbrev S1536x6912 : Shape := ⟨2, ![1536, 6912]⟩
abbrev S1536x80 : Shape := ⟨2, ![1536, 80]⟩
abbrev S1536x80x32 : Shape := ⟨3, ![1536, 80, 32]⟩
abbrev S1536x80x1 : Shape := ⟨3, ![1536, 80, 1]⟩
abbrev S6912x80x32 : Shape := ⟨3, ![6912, 80, 32]⟩
abbrev S6912x80x1 : Shape := ⟨3, ![6912, 80, 1]⟩
abbrev S6912x2560 : Shape := ⟨2, ![6912, 2560]⟩

abbrev nBuf : Space → Nat
  | .hbm => 9
  | .vmem => 7
  | .smem => 0
  | _ => 0

abbrev bufTy : (tb : Table) → Fin (tcTables nBuf tb) → BufTy
  | .hbm, ⟨0, _⟩ => ⟨S12x128x2560, .bf16⟩
  | .hbm, ⟨1, _⟩ => ⟨S6912x80, .i32⟩
  | .hbm, ⟨2, _⟩ => ⟨S6912x80, .i32⟩
  | .hbm, ⟨3, _⟩ => ⟨S6912, .bf16⟩
  | .hbm, ⟨4, _⟩ => ⟨S1536x2560, .bf16⟩
  | .hbm, ⟨5, _⟩ => ⟨S1x6912, .bf16⟩
  | .hbm, ⟨6, _⟩ => ⟨S1536x6912, .bf16⟩
  | .hbm, ⟨7, _⟩ => ⟨S1536x2560, .fp8e4m3⟩
  | .hbm, ⟨8, _⟩ => ⟨S1536x80, .f32⟩
  | .local _ .vmem, ⟨0, _⟩ => ⟨S1536x2560, .bf16⟩
  | .local _ .vmem, ⟨1, _⟩ => ⟨S6912x80, .i32⟩
  | .local _ .vmem, ⟨2, _⟩ => ⟨S6912x80, .i32⟩
  | .local _ .vmem, ⟨3, _⟩ => ⟨S1x6912, .bf16⟩
  | .local _ .vmem, ⟨4, _⟩ => ⟨S1536x6912, .bf16⟩
  | .local _ .vmem, ⟨5, _⟩ => ⟨S1536x2560, .fp8e4m3⟩
  | .local _ .vmem, ⟨6, _⟩ => ⟨S1536x80, .f32⟩
  | _, _ => ⟨S12x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x80 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x80 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Pair.lean ====
/- The sanctioned rewrite of the idealized kernel: a pair of half-words moved as values. -/
module

public import proofs.«01_k».proof.Defs
public import Idealize.ShloMosaic.Lib.Bf16Pair

@[expose] public section

open Idealize.ShloMosaic

/-- The idealized kernel moves the two halves of a word as the values they encode. -/
theorem Cert.KernelIdeal.preserves : Cert.preserves_Kernel_KernelIdeal :=
  IdealRules.bf16_pair.statement Cert.KernelIdeal.S32x128 Cert.KernelIdeal.S16x128
-- ==== Proof.Quant.lean ====
/- THE QUANTISER'S VECTORS, STRUCTURED: the values one trip of the kernel's row loop computes (32 rows of `x`, as
   twenty tiles of 128 lanes), written as short definitions over tiles — the lane permutation, one stage of the
   tree of maxima, the tree, the search for a scale's exponent, a tile of codes, a tile of dequantised values, the
   gather of the scales — and the equations saying that the trip's payloads are these. -/
module

public import proofs.«01_k».proof.Proof.Gen.KernelIdeal.Loops

@[expose] public section

set_option maxRecDepth 16384

noncomputable section

namespace Cert.KernelIdeal.Quant

open Idealize.ShloMosaic Idealize.ShloMosaic.TcCoe Idealize.ShloMosaic.Tactic
open Cert.KernelIdeal Cert.KernelIdeal.Gen

variable {F : FTy → Type} [FloatOps F]

/-- The lane numbers of a tile's even (or odd) rows. -/
def lane16 : IVec S16x128 32 := iota .tc S16x128 32 [1] iota_S16x128_d1_w32

/-- Lane indices given for sixteen rows, for both halves of a tile, negative ones counted from the end. -/
def wrapIdx (w : IVec S32x128 32) : IVec S32x128 32 :=
  shapeCast S32x128 (shapeCast S32x128x1
    (select (cmpi .slt w (broadcast S32x128 0#32)) (addi w (broadcast S32x128 128#32)) w)
    shapeCasts_S32x128_S32x128x1) shapeCasts_S32x128x1_S32x128

/-- Sixteen rows of indices, twice. -/
def idx2 (w : IVec S16x128 32) : IVec S32x128 32 :=
  concatenate S32x128 0 [⟨S16x128, w⟩, ⟨S16x128, w⟩] concatenates_S16x128_S16x128_S32x128_d0

/-- A tile's lanes permuted by `w`. -/
def perm (x : FVec F S32x128 .bf16) (w : IVec S16x128 32) : FVec F S32x128 .bf16 :=
  truncf .bf16 (dynamicGather 1 (extf .f32 x bitsLt_bf16_f32) (wrapIdx (idx2 w))) bitsLt_bf16_f32

/-- `a` where the mask holds, `b` elsewhere: on pairs of rows. -/
def pick (m : IVec S16x128 1) (a b : FVec F S32x128 .bf16) : FVec F S32x128 .bf16 :=
  interleaveRows S32x128
    (select m (rowsOfParity 0 S16x128 a bitcasts_S32x128_w16_S16x128_w32) (rowsOfParity 0 S16x128 b bitcasts_S32x128_w16_S16x128_w32))
    (select m (rowsOfParity 1 S16x128 a bitcasts_S32x128_w16_S16x128_w32) (rowsOfParity 1 S16x128 b bitcasts_S32x128_w16_S16x128_w32))
    bitcasts_S32x128_w16_S16x128_w32

/-- The lanes whose bit `s` is clear. -/
def low (s : BitVec 32) : IVec S16x128 1 :=
  cmpi .eq (andi lane16 (broadcast S16x128 s)) (broadcast S16x128 0#32)

/-- One stage of the tree on two tiles, its partner lanes at distance `s`, -/
def stage (s : BitVec 32) (a b : FVec F S32x128 .bf16) : FVec F S32x128 .bf16 :=
  maximumf (pick (low s) a b) (perm (pick (low s) b a) (xori lane16 (broadcast S16x128 s)))

/-- and on one tile left without a partner. -/
def stage1 (s : BitVec 32) (a : FVec F S32x128 .bf16) : FVec F S32x128 .bf16 :=
  maximumf a (perm a (xori lane16 (broadcast S16x128 s)))

/-- The tree's levels over the twenty tiles `x`. -/
def lev1 (x : Fin 20 → FVec F S32x128 .bf16) (i : Fin 10) : FVec F S32x128 .bf16 :=
  stage 1#32 (absf (x ⟨2 * i.val, by omega⟩)) (absf (x ⟨2 * i.val + 1, by omega⟩))
def lev2 (x : Fin 20 → FVec F S32x128 .bf16) (i : Fin 5) : FVec F S32x128 .bf16 :=
  stage 2#32 (lev1 x ⟨2 * i.val, by omega⟩) (lev1 x ⟨2 * i.val + 1, by omega⟩)
def lev4 (x : Fin 20 → FVec F S32x128 .bf16) (i : Fin 2) : FVec F S32x128 .bf16 :=
  stage 4#32 (lev2 x ⟨2 * i.val, by omega⟩) (lev2 x ⟨2 * i.val + 1, by omega⟩)
def lev4' (x : Fin 20 → FVec F S32x128 .bf16) : FVec F S32x128 .bf16 := stage1 4#32 (lev2 x 4)
def lev8 (x : Fin 20 → FVec F S32x128 .bf16) : FVec F S32x128 .bf16 := stage 8#32 (lev4 x 0) (lev4 x 1)
def lev8' (x : Fin 20 → FVec F S32x128 .bf16) : FVec F S32x128 .bf16 := stage1 8#32 (lev4' x)
def lev16 (x : Fin 20 → FVec F S32x128 .bf16) : FVec F S32x128 .bf16 := stage 16#32 (lev8 x) (lev8' x)

/-- The blocks' maxima times the reciprocal of 448. -/
def vmax (x : Fin 20 → FVec F S32x128 .bf16) : FVec F S32x128 .f32 :=
  mulf (extf .f32 (lev16 x) bitsLt_bf16_f32) (broadcast S32x128 (Scalar.ofBits .f32 0x3B124925#32 : F .f32))

/-- One step of the search for the exponent: `s` is added to the exponent field if `v` is no less than the power of
    two it gives. -/
def step (v : FVec F S32x128 .f32) (s : BitVec 32) (b : IVec S32x128 32) : IVec S32x128 32 :=
  select (cmpf .oge v (bitcastToFloat .f32 (shli (addi b (broadcast S32x128 s)) (broadcast S32x128 23#32))))
    (addi b (broadcast S32x128 s)) b

/-- The exponent field found, -/
def search (v : FVec F S32x128 .f32) : IVec S32x128 32 :=
  step v 1#32 (step v 2#32 (step v 4#32 (step v 8#32 (step v 16#32 (step v 32#32 (step v 64#32
    (step v 128#32 (broadcast S32x128 0#32))))))))

/-- one more, or the field of 1 where it is zero. -/
def exps (v : FVec F S32x128 .f32) : IVec S32x128 32 :=
  select (cmpi .eq (search v) (broadcast S32x128 0#32)) (broadcast S32x128 127#32) (addi (search v) (broadcast S32x128 1#32))

/-- The scale, -/
def scaleV (v : FVec F S32x128 .f32) : FVec F S32x128 .f32 :=
  bitcastToFloat .f32 (shli (exps v) (broadcast S32x128 23#32))

/-- and its reciprocal. -/
def invV (v : FVec F S32x128 .f32) : FVec F S32x128 .f32 :=
  bitcastToFloat .f32 (shli (subi (broadcast S32x128 254#32) (exps v)) (broadcast S32x128 23#32))

/-- The lane group's start. -/
def group16 : IVec S16x128 32 := andi lane16 (broadcast S16x128 4294967264#32)

/-- Every lane of a tile at the lane of its group that holds column tile `c`'s value. -/
def spread (x : FVec F S32x128 .bf16) (c : BitVec 32) : FVec F S32x128 .bf16 :=
  perm x (addi group16 (broadcast S16x128 c))

/-- A tile of codes, before the cast, -/
def clipTile (x inv : FVec F S32x128 .bf16) (c : BitVec 32) : FVec F S32x128 .bf16 :=
  minimumf (broadcast S32x128 (Scalar.ofBits .bf16 0x43E0#16 : F .bf16))
    (maximumf (broadcast S32x128 (Scalar.ofBits .bf16 0xC3E0#16 : F .bf16)) (mulf x (spread inv c)))

/-- after it, -/
def codeTile (x inv : FVec F S32x128 .bf16) (c : BitVec 32) : FVec F S32x128 .fp8e4m3 :=
  truncf .fp8e4m3 (clipTile x inv c) bitsLt_fp8e4m3_bf16

/-- and a tile of dequantised values. -/
def xbTile (x sc inv : FVec F S32x128 .bf16) (c : BitVec 32) : FVec F S32x128 .bf16 :=
  shapeCast S32x128 (mulf (extf .bf16 (codeTile x inv c) bitsLt_fp8e4m3_bf16) (spread sc c)) shapeCasts_S32x128_S32x128

/-- The lane numbers of a whole tile; a lane number divided by four, rounding down; its remainder. -/
def lane32 : IVec S32x128 32 := iota .tc S32x128 32 [1] iota_S32x128_d1_w32
def sgn32 : IVec S32x128 32 :=
  subi (extui 32 (cmpi .sgt lane32 (broadcast S32x128 0#32)) natLt_1_32) (extui 32 (cmpi .slt lane32 (broadcast S32x128 0#32)) natLt_1_32)
def sgn4 : BitVec 32 := Scalar.subi (Scalar.extui (Scalar.cmpi .sgt 4#32 0#32)) (Scalar.extui (Scalar.cmpi .slt 4#32 0#32))
def div4 : IVec S32x128 32 :=
  select (andi (cmpi .ne sgn32 (broadcast S32x128 sgn4)) (cmpi .ne (remsi lane32 (broadcast S32x128 4#32)) (broadcast S32x128 0#32)))
    (subi (divsi lane32 (broadcast S32x128 4#32)) (broadcast S32x128 1#32)) (divsi lane32 (broadcast S32x128 4#32))
def four : BitVec 32 := Scalar.select (Scalar.cmpi .eq 4#32 0#32) 1#32 4#32
def rem4' : IVec S32x128 32 := remsi lane32 (broadcast S32x128 four)
def rem4 : IVec S32x128 32 :=
  select (andi (xori (cmpi .slt rem4' (broadcast S32x128 0#32))
      (broadcastTo S32x128 (broadcast S32x128 (Scalar.cmpi .slt four 0#32)) broadcasts_S32x128_S32x128))
    (cmpi .ne rem4' (broadcast S32x128 0#32))) (addi rem4' (broadcast S32x128 four)) rem4'

/-- The lane each of the first `4 * n` scales is found at. -/
def srcLane : ℕ → IVec S32x128 32
  | 0 => broadcast S32x128 0#32
  | n + 1 => select (cmpi .eq div4 (broadcast S32x128 (BitVec.ofNat 32 n)))
      (addi (muli rem4 (broadcast S32x128 32#32)) (broadcast S32x128 (BitVec.ofNat 32 n))) (srcLane n)

/-- The scales of 32 rows, block by block. -/
def scaleRows (sc : FVec F S32x128 .f32) : FVec F S32x80 .f32 :=
  extractStridedSlice S32x80 ![0, 0] (dynamicGather 1 sc (wrapIdx (srcLane 20))) slices_S32x128_o0_0_S32x80

/-! ## The trip's payloads -/

variable (arg1 : Memref sig .tc .vmem S1536x2560 .bf16) (X : BufTy.Contents (Elt F) arg1.view.ty) (k : Fin k0_t1_loop.trips)

/-- The first row of trip `k`, as the kernel computes it, -/
def rowOff : ℕ := BitVec.toNat (Scalar.indexCast (Scalar.addi 0#32 (Scalar.muli (Scf.iv 0#32 1#32 k.val) 32#32)))

/-- is `32 * k`. -/
theorem rowOff_eq : rowOff k = 32 * k.val := by
  have r : k.val < 48 := Nat.lt_of_lt_of_le k.isLt k0_t1_abs.2.1
  have a0 : Affine.IsInt 0#32 (0) := Affine.ofNat _ (by omega)
  have a1 : Affine.IsInt 1#32 (1) := Affine.ofNat _ (by omega)
  have iv : Affine.IsInt _ ((k.val : Int)) := Affine.iv a0 a1 k.val (by omega)
  have a32 : Affine.IsInt 32#32 (32) := Affine.ofNat _ (by omega)
  have m : Affine.IsInt _ (32 * (k.val : Int)) := Affine.muli iv a32 (by omega)
  have s : Affine.IsInt _ (32 * (k.val : Int)) := Affine.addi a0 m (by omega)
  exact Affine.nat_eq (Affine.indexCast s) _ (by omega)

/-- Tile `c`'s offset in trip `k`. -/
def offs (c : Fin 20) : Fin 2 → ℕ := ![rowOff k, 128 * c.val]

theorem offs_inb (c : Fin 20) : ∀ a, offs k c a + S32x128.size a ≤ S1536x2560.size a := by
  have r : k.val < 48 := Nat.lt_of_lt_of_le k.isLt k0_t1_abs.2.1
  have hc := c.isLt
  intro a
  fin_cases a
  · show rowOff k + 32 ≤ 1536
    rw [rowOff_eq]; omega
  · show 128 * c.val + 128 ≤ 2560
    omega

/-- Tile `c` of `x`, as trip `k` loads it. -/
def tiles (c : Fin 20) : FVec F S32x128 .bf16 :=
  shapeCast S32x128 (View.readAt (Elt F) arg1.view (Rect.unit (s := S1536x2560) (offs k c) S32x128.size (offs_inb k c)).toLoadRect X)
    shapeCasts_S32x128_S32x128

/-- Trip `k`'s scales and reciprocals, cast. -/
def scB : FVec F S32x128 .bf16 := truncf .bf16 (scaleV (vmax (tiles arg1 X k))) bitsLt_bf16_f32
def inB : FVec F S32x128 .bf16 := truncf .bf16 (invV (vmax (tiles arg1 X k))) bitsLt_bf16_f32

/-- The pieces trip `k` writes of the codes, -/
def codePieces : List (View.Piece (Elt F) S1536x2560 .fp8e4m3) :=
  (List.finRange 20).reverse.map fun c =>
    ⟨Rect.unit (offs k c) S32x128.size (offs_inb k c), codeTile (tiles arg1 X k c) (inB arg1 X k) (BitVec.ofNat 32 c.val)⟩

/-- of the dequantised values, -/
def xbPieces : List (View.Piece (Elt F) S1536x2560 .bf16) :=
  (List.finRange 20).reverse.map fun c =>
    ⟨Rect.unit (offs k c) S32x128.size (offs_inb k c),
      xbTile (tiles arg1 X k c) (scB arg1 X k) (inB arg1 X k) (BitVec.ofNat 32 c.val)⟩

theorem offs80_inb : ∀ a, (![rowOff k, 0] : Fin 2 → ℕ) a + S32x80.size a ≤ S1536x80.size a := by
  have r : k.val < 48 := Nat.lt_of_lt_of_le k.isLt k0_t1_abs.2.1
  intro a
  fin_cases a
  · show rowOff k + 32 ≤ 1536
    rw [rowOff_eq]; omega
  · show 0 + 80 ≤ 80
    omega

/-- and of the scales. -/
def scalePieces : List (View.Piece (Elt F) S1536x80 .f32) :=
  [⟨Rect.unit (s := S1536x80) ![rowOff k, 0] S32x80.size (offs80_inb k), scaleRows (scaleV (vmax (tiles arg1 X k)))⟩]

end Cert.KernelIdeal.Quant
-- ==== Proof.Trip.lean ====
/- ONE TRIP OF THE ROW LOOP: the pieces the trip is found to write are the structured ones (Quant.lean); what they
   leave, row by row, is a function of the rows of `x` alone. -/
module

public import proofs.«01_k».proof.Proof.Quant
public import proofs.«01_k».proof.Proof.Gen.KernelIdeal.Frame
public import Idealize.ShloMosaic.Lib.Pipeline.Value

@[expose] public section

set_option maxRecDepth 16384

noncomputable section

namespace Cert.KernelIdeal.Quant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## What an array holds, block by block -/

/-- An array of 1536 rows and 2560 columns put together from its tiles of 32 rows and 128 columns, -/
def asm {α : Type} (T : Fin 48 → Fin 20 → S32x128.Idx → α) : S1536x2560.Idx → α := fun y =>
  T ⟨(y 0).val / 32, by have h : (y 0).val < 1536 := (y 0).isLt; omega⟩ ⟨(y 1).val / 128, by have h : (y 1).val < 2560 := (y 1).isLt; omega⟩
    (Shape.pair (d := ![32, 128]) ⟨(y 0).val % 32, Nat.mod_lt _ (by decide)⟩ ⟨(y 1).val % 128, Nat.mod_lt _ (by decide)⟩)

/-- and one of 1536 rows and 80 columns from its bands of 32 rows. -/
def asm80 {α : Type} (T : Fin 48 → S32x80.Idx → α) : S1536x80.Idx → α := fun y =>
  T ⟨(y 0).val / 32, by have h : (y 0).val < 1536 := (y 0).isLt; omega⟩
    (Shape.pair (d := ![32, 80]) ⟨(y 0).val % 32, Nat.mod_lt _ (by decide)⟩ (y 1))

/-- Tile `(k, c)` of an array. -/
def tl (x : Vec F S1536x2560 .bf16) (k : Fin 48) (c : Fin 20) : FVec F S32x128 .bf16 := fun j =>
  x (Shape.pair (d := ![1536, 2560]) ⟨32 * k.val + (j 0).val, by have h : (j 0).val < 32 := (j 0).isLt; show _ < 1536; omega⟩
    ⟨128 * c.val + (j 1).val, by have h : (j 1).val < 128 := (j 1).isLt; show _ < 2560; omega⟩)

/-- The blocks' scaled maxima of band `k`, as the tree leaves them, -/
def vOf (x : Vec F S1536x2560 .bf16) (k : Fin 48) : FVec F S32x128 .f32 := vmax (tl x k)

/-- the codes the row loop leaves for `x`, -/
def codesOf (x : Vec F S1536x2560 .bf16) : Vec F S1536x2560 .fp8e4m3 :=
  asm fun k c => codeTile (tl x k c) (truncf .bf16 (invV (vOf x k)) bitsLt_bf16_f32) (BitVec.ofNat 32 c.val)

/-- the scales, -/
def scalesOf (x : Vec F S1536x2560 .bf16) : Vec F S1536x80 .f32 := asm80 fun k => scaleRows (scaleV (vOf x k))

/-- and the dequantised values. -/
def xbOf (x : Vec F S1536x2560 .bf16) : Vec F S1536x2560 .bf16 :=
  asm fun k c => xbTile (tl x k c) (truncf .bf16 (scaleV (vOf x k)) bitsLt_bf16_f32) (truncf .bf16 (invV (vOf x k)) bitsLt_bf16_f32)
    (BitVec.ofNat 32 c.val)

/-- The loop's trips are 48. -/
theorem trips_eq : k0_t1_loop.trips = 48 := by decide

variable (𝒱 : Variants) (c : Dev nD) (bd : Option 𝒱.V) (i : grid0.Coords) (arg1 : Memref sig .tc .vmem S1536x2560 .bf16) (harg1 : arg1.IsWhole) (arg2 : Memref sig .tc .vmem S256x80 .i32) (harg2 : arg2.IsWhole) (arg3 : Memref sig .tc .vmem S256x80 .i32) (harg3 : arg3.IsWhole) (arg4 : Memref sig .tc .vmem S1x256 .bf16) (harg4 : arg4.IsWhole) (arg5 : Memref sig .tc .vmem S1536x256 .bf16) (harg5 : arg5.IsWhole) (arg6 : Memref sig .tc .vmem S1536x2560 .fp8e4m3) (harg6 : arg6.IsWhole) (arg7 : Memref sig .tc .vmem S1536x80 .f32) (harg7 : arg7.IsWhole) (arg8 : Memref sig .tc .vmem S1536x2560 .bf16) (harg8 : arg8.IsWhole) (arg9 : Memref sig .tc .vmem S2x80x256 .i32) (harg9 : arg9.IsWhole) (arg10 : Memref sig .tc .vmem S2560x256 .bf16) (harg10 : arg10.IsWhole)
  (h1 : k0_cond1 i = 1#1) (X : BufTy.Contents (Elt F) arg1.view.ty) (k : Fin k0_t1_loop.trips)

/-- The trip's pieces of the codes, the scales and the dequantised values. -/
theorem tripL_eq : tripL_k0_t1 (F := F) 𝒱 c bd i arg1 harg1 arg2 harg2 arg3 harg3 arg4 harg4 arg5 harg5 arg6 harg6 arg7 harg7 arg8 harg8 arg9 harg9 arg10 harg10 h1 X k
    = (codePieces arg1 X k, scalePieces arg1 X k, xbPieces arg1 X k) := by sl_kernel_rfl

/-! ## What the trips' pieces leave -/

/-- The tile trip `k` loads is the array's. -/
theorem tiles_eq (k' : Fin 48) (hk : k'.val = k.val) : tiles arg1 X k = tl (arg1.view.read (Elt F) X) k' := by
  funext c j
  refine (congrFun (shapeCast_self (s := S32x128) _ _) j).trans ?_
  show arg1.view.read (Elt F) X _ = arg1.view.read (Elt F) X _
  congr 1
  funext a
  fin_cases a
  · apply Fin.ext
    show rowOff k + 1 * (j 0).val = 32 * k'.val + (j 0).val
    rw [rowOff_eq]; omega
  · apply Fin.ext
    show 128 * c.val + 1 * (j 1).val = 128 * c.val + (j 1).val
    omega

/-- An array put together from tiles, read at a place given by its tile and the place in it. -/
theorem asm_apply {α : Type} (T : Fin 48 → Fin 20 → S32x128.Idx → α) (y : S1536x2560.Idx) (k' : Fin 48) (c : Fin 20) (x : S32x128.Idx)
    (e0 : (y 0).val = 32 * k'.val + (x 0).val) (e1 : (y 1).val = 128 * c.val + (x 1).val) : asm T y = T k' c x := by
  have h0 : (x 0).val < 32 := (x 0).isLt
  have h1 : (x 1).val < 128 := (x 1).isLt
  have a : ∀ k₁ c₁ x₁, k₁ = k' → c₁ = c → x₁ = x → T k₁ c₁ x₁ = T k' c x := by rintro _ _ _ rfl rfl rfl; rfl
  refine a _ _ _ (Fin.ext (show (y 0).val / 32 = _ by omega)) (Fin.ext (show (y 1).val / 128 = _ by omega)) ?_
  funext b
  fin_cases b
  · exact Fin.ext (show (y 0).val % 32 = (x 0).val by omega)
  · exact Fin.ext (show (y 1).val % 128 = (x 1).val by omega)

/-- The same of bands. -/
theorem asm80_apply {α : Type} (T : Fin 48 → S32x80.Idx → α) (y : S1536x80.Idx) (k' : Fin 48) (x : S32x80.Idx)
    (e0 : (y 0).val = 32 * k'.val + (x 0).val) (e1 : (y 1).val = (x 1).val) : asm80 T y = T k' x := by
  have h0 : (x 0).val < 32 := (x 0).isLt
  have a : ∀ k₁ x₁, k₁ = k' → x₁ = x → T k₁ x₁ = T k' x := by rintro _ _ rfl rfl; rfl
  refine a _ _ (Fin.ext (show (y 0).val / 32 = _ by omega)) ?_
  funext b
  fin_cases b
  · exact Fin.ext (show (y 0).val % 32 = (x 0).val by omega)
  · exact Fin.ext e1

/-- An array put together from tiles, read where a trip's piece lies. -/
theorem asm_emb {α : Type} (T : Fin 48 → Fin 20 → S32x128.Idx → α) (c : Fin 20) (x : S32x128.Idx) (k' : Fin 48) (hk : k'.val = k.val) :
    asm T ((Rect.unit (s := S1536x2560) (offs k c) S32x128.size (offs_inb k c)).emb x) = T k' c x := by
  refine asm_apply T _ k' c x ?_ ?_
  · show rowOff k + 1 * (x 0).val = _
    rw [rowOff_eq]; omega
  · show 128 * c.val + 1 * (x 1).val = _
    omega

/-- The same of bands. -/
theorem asm80_emb {α : Type} (T : Fin 48 → S32x80.Idx → α) (x : S32x80.Idx) (k' : Fin 48) (hk : k'.val = k.val) :
    asm80 T ((Rect.unit (s := S1536x80) ![rowOff k, 0] S32x80.size (offs80_inb k)).emb x) = T k' x := by
  refine asm80_apply T _ k' x ?_ ?_
  · show rowOff k + 1 * (x 0).val = _
    rw [rowOff_eq]; omega
  · show 0 + 1 * (x 1).val = _
    omega

/-- The pieces written before trip `n` are those of the trips before `n`. -/
theorem pb_mem (n : ℕ) (hn : n ≤ k0_t1_loop.trips) :
    (∀ p, p ∈ (pb_k0_t1 (F := F) 𝒱 c bd i arg1 harg1 arg2 harg2 arg3 harg3 arg4 harg4 arg5 harg5 arg6 harg6 arg7 harg7 arg8 harg8 arg9 harg9 arg10 harg10 h1 X n).1 ↔ ∃ k : Fin k0_t1_loop.trips, k.val < n ∧ p ∈ codePieces arg1 X k)
    ∧ (∀ p, p ∈ (pb_k0_t1 (F := F) 𝒱 c bd i arg1 harg1 arg2 harg2 arg3 harg3 arg4 harg4 arg5 harg5 arg6 harg6 arg7 harg7 arg8 harg8 arg9 harg9 arg10 harg10 h1 X n).2.1 ↔ ∃ k : Fin k0_t1_loop.trips, k.val < n ∧ p ∈ scalePieces arg1 X k)
    ∧ (∀ p, p ∈ (pb_k0_t1 (F := F) 𝒱 c bd i arg1 harg1 arg2 harg2 arg3 harg3 arg4 harg4 arg5 harg5 arg6 harg6 arg7 harg7 arg8 harg8 arg9 harg9 arg10 harg10 h1 X n).2.2 ↔ ∃ k : Fin k0_t1_loop.trips, k.val < n ∧ p ∈ xbPieces arg1 X k) := by
  induction n with
  | zero => simp [pb_k0_t1]
  | succ n ih =>
    obtain ⟨i1, i2, i3⟩ := ih (by omega)
    have key := pb_k0_t1_succ (F := F) 𝒱 c bd i arg1 harg1 arg2 harg2 arg3 harg3 arg4 harg4 arg5 harg5 arg6 harg6 arg7 harg7 arg8 harg8 arg9 harg9 arg10 harg10 h1 X ⟨n, hn⟩
    rw [tripL_eq] at key
    have aux : ∀ (Q : Fin k0_t1_loop.trips → Prop), (Q ⟨n, hn⟩ ∨ ∃ k : Fin k0_t1_loop.trips, k.val < n ∧ Q k)
        ↔ ∃ k : Fin k0_t1_loop.trips, k.val < n + 1 ∧ Q k := by
      intro Q
      constructor
      · rintro (h | ⟨k, hk, h⟩)
        · exact ⟨_, Nat.lt_succ_self n, h⟩
        · exact ⟨k, by omega, h⟩
      · rintro ⟨k, hk, h⟩
        by_cases e : k.val = n
        · left; have : k = ⟨n, hn⟩ := Fin.ext e
          rw [← this]; exact h
        · right; exact ⟨k, by omega, h⟩
    simp only at key
    rw [key]
    refine ⟨fun p => ?_, fun p => ?_, fun p => ?_⟩ <;> rw [List.mem_append]
    · rw [i1 p]; exact aux fun k => p ∈ codePieces arg1 X k
    · rw [i2 p]; exact aux fun k => p ∈ scalePieces arg1 X k
    · rw [i3 p]; exact aux fun k => p ∈ xbPieces arg1 X k

/-- Every place of an array lies in some trip's tile. -/
theorem tile_cover (y : S1536x2560.Idx) : ∃ (k : Fin k0_t1_loop.trips) (c : Fin 20),
    y ∈ (Rect.unit (s := S1536x2560) (offs k c) S32x128.size (offs_inb k c)).set := by
  have h0 : (y 0).val < 1536 := (y 0).isLt
  have h1 : (y 1).val < 2560 := (y 1).isLt
  refine ⟨⟨(y 0).val / 32, by rw [trips_eq]; omega⟩, ⟨(y 1).val / 128, by omega⟩, Rect.mem_set_unit.mpr fun a => ?_⟩
  fin_cases a
  · show rowOff _ ≤ (y 0).val ∧ (y 0).val < rowOff _ + 32
    rw [rowOff_eq]; dsimp only; omega
  · show 128 * ((y 1).val / 128) ≤ (y 1).val ∧ (y 1).val < 128 * ((y 1).val / 128) + 128
    omega

/-- What the loop leaves in the codes' buffer, -/
theorem codes_read (f : BufTy.Contents (Elt F) arg6.view.ty) :
    arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 arg10 harg10 h1 X k0_t1_loop.trips).1)
      = codesOf (arg1.view.read (Elt F) X) := by
  have hm := (pb_mem 𝒱 c bd i arg1 harg1 arg2 harg2 arg3 harg3 arg4 harg4 arg5 harg5 arg6 harg6 arg7 harg7 arg8 harg8 arg9 harg9 arg10 harg10 h1 X k0_t1_loop.trips le_rfl).1
  funext y
  refine View.read_writes_apply_of_pieces _ _ _ _ (fun p hp x => ?_) y ?_
  · obtain ⟨k, -, hk⟩ := (hm p).mp hp
    obtain ⟨c', -, rfl⟩ := List.mem_map.mp hk
    have e : (⟨k.val, Nat.lt_of_lt_of_le k.isLt k0_t1_abs.2.1⟩ : Fin 48).val = k.val := rfl
    refine Eq.trans ?_ (asm_emb k _ c' x _ e).symm
    rw [← tiles_eq arg1 X k _ e]
    unfold vOf; rw [← tiles_eq arg1 X k _ e]
    rfl
  · obtain ⟨k, c', h⟩ := tile_cover y
    exact ⟨_, (hm _).mpr ⟨k, k.isLt, List.mem_map.mpr ⟨c', by simp, rfl⟩⟩, h⟩

/-- in the dequantised values', -/
theorem xb_read (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 h1 X k0_t1_loop.trips).2.2)
      = xbOf (arg1.view.read (Elt F) X) := by
  have hm := (pb_mem 𝒱 c bd i arg1 harg1 arg2 harg2 arg3 harg3 arg4 harg4 arg5 harg5 arg6 harg6 arg7 harg7 arg8 harg8 arg9 harg9 arg10 harg10 h1 X k0_t1_loop.trips le_rfl).2.2
  funext y
  refine View.read_writes_apply_of_pieces _ _ _ _ (fun p hp x => ?_) y ?_
  · obtain ⟨k, -, hk⟩ := (hm p).mp hp
    obtain ⟨c', -, rfl⟩ := List.mem_map.mp hk
    have e : (⟨k.val, Nat.lt_of_lt_of_le k.isLt k0_t1_abs.2.1⟩ : Fin 48).val = k.val := rfl
    refine Eq.trans ?_ (asm_emb k _ c' x _ e).symm
    rw [← tiles_eq arg1 X k _ e]
    unfold vOf; rw [← tiles_eq arg1 X k _ e]
    rfl
  · obtain ⟨k, c', h⟩ := tile_cover y
    exact ⟨_, (hm _).mpr ⟨k, k.isLt, List.mem_map.mpr ⟨c', by simp, rfl⟩⟩, h⟩

/-- and in the scales'. -/
theorem scales_read (f : BufTy.Contents (Elt F) arg7.view.ty) :
    arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 arg10 harg10 h1 X k0_t1_loop.trips).2.1)
      = scalesOf (arg1.view.read (Elt F) X) := by
  have hm := (pb_mem 𝒱 c bd i arg1 harg1 arg2 harg2 arg3 harg3 arg4 harg4 arg5 harg5 arg6 harg6 arg7 harg7 arg8 harg8 arg9 harg9 arg10 harg10 h1 X k0_t1_loop.trips le_rfl).2.1
  funext y
  refine View.read_writes_apply_of_pieces _ _ _ _ (fun p hp x => ?_) y ?_
  · obtain ⟨k, -, hk⟩ := (hm p).mp hp
    obtain rfl := List.mem_singleton.mp hk
    have e : (⟨k.val, Nat.lt_of_lt_of_le k.isLt k0_t1_abs.2.1⟩ : Fin 48).val = k.val := rfl
    refine Eq.trans ?_ (asm80_emb k _ x _ e).symm
    unfold vOf; rw [← tiles_eq arg1 X k _ e]
  · have h0 : (y 0).val < 1536 := (y 0).isLt
    have h1' : (y 1).val < 80 := (y 1).isLt
    let k : Fin k0_t1_loop.trips := ⟨(y 0).val / 32, by rw [trips_eq]; omega⟩
    refine ⟨⟨Rect.unit (s := S1536x80) ![rowOff k, 0] S32x80.size (offs80_inb k), scaleRows (scaleV (vmax (tiles arg1 X k)))⟩,
      (hm _).mpr ⟨k, k.isLt, List.mem_singleton.mpr rfl⟩, ?_⟩
    show y ∈ (Rect.unit (s := S1536x80) ![rowOff k, 0] S32x80.size (offs80_inb k)).set
    refine Rect.mem_set_unit.mpr fun a => ?_
    fin_cases a
    · show rowOff k ≤ (y 0).val ∧ (y 0).val < rowOff k + 32
      rw [rowOff_eq]; dsimp only [k]; omega
    · show 0 ≤ (y 1).val ∧ (y 1).val < 0 + 80
      omega

/-! ## What the loop hands on -/

/-- After the loop the three buffers hold the codes, the scales and the dequantised values of `x`. -/
instance loopExit (E : Set ℕ) (X_arg1 : BufTy.Contents (Elt F) arg1.view.ty) (G_arg6 : BufTy.Contents (Elt F) arg6.view.ty)
    (G_arg7 : BufTy.Contents (Elt F) arg7.view.ty) (G_arg8 : BufTy.Contents (Elt F) arg8.view.ty) :
    LoopExit (loopInv_k0_t1 (F := F) 𝒱 c bd E i arg1 harg1 arg2 harg2 arg3 harg3 arg4 harg4 arg5 harg5 arg6 harg6 arg7 harg7 arg8 harg8 arg9 harg9 arg10 harg10 h1 X_arg1 G_arg6 G_arg7 G_arg8) where
  post _ := iprop((arg1.view.loc (c : Thread nD τ) ↦[arg1.view.set]{fullShare} X_arg1)
    ∗ (arg6.view.loc (c : Thread nD τ) ↦[arg6.view.set]{fullShare} harg6.unread (codesOf (arg1.view.read (Elt F) X_arg1)))
    ∗ (arg7.view.loc (c : Thread nD τ) ↦[arg7.view.set]{fullShare} harg7.unread (scalesOf (arg1.view.read (Elt F) X_arg1)))
    ∗ (arg8.view.loc (c : Thread nD τ) ↦[arg8.view.set]{fullShare} harg8.unread (xbOf (arg1.view.read (Elt F) X_arg1))))
  exit acc := by
    show inv_k0_t1 (F := F) 𝒱 c bd i arg1 harg1 arg2 harg2 arg3 harg3 arg4 harg4 arg5 harg5 arg6 harg6 arg7 harg7 arg8 harg8 arg9 harg9 arg10 harg10 h1 X_arg1 G_arg6 G_arg7 G_arg8 k0_t1_loop.trips acc ⊢ _
    have e6 := harg6.eq_unread (codes_read 𝒱 c bd i arg1 harg1 arg2 harg2 arg3 harg3 arg4 harg4 arg5 harg5 arg6 harg6 arg7 harg7 arg8 harg8 arg9 harg9 arg10 harg10 h1 X_arg1 G_arg6)
    have e7 := harg7.eq_unread (scales_read 𝒱 c bd i arg1 harg1 arg2 harg2 arg3 harg3 arg4 harg4 arg5 harg5 arg6 harg6 arg7 harg7 arg8 harg8 arg9 harg9 arg10 harg10 h1 X_arg1 G_arg7)
    have e8 := harg8.eq_unread (xb_read 𝒱 c bd i arg1 harg1 arg2 harg2 arg3 harg3 arg4 harg4 arg5 harg5 arg6 harg6 arg7 harg7 arg8 harg8 arg9 harg9 arg10 harg10 h1 X_arg1 G_arg8)
    iintro ⟨H1, ⟨%f6, H6, %h6⟩, ⟨%f7, H7, %h7⟩, ⟨%f8, H8, %h8⟩⟩
    rw [e6] at h6
    rw [e7] at h7
    rw [e8] at h8
    subst h6; subst h7; subst h8
    isplitl [H1]; · iexact H1
    isplitl [H6]; · iexact H6
    isplitl [H7]; · iexact H7
    iexact H8

end Cert.KernelIdeal.Quant
-- ==== Proof.Runs.lean ====
/- WHAT THE RUNS OF THE KERNEL'S BODY SHARE: the branch condition over the grid points, the staging and scratch
   memrefs, and the value one block of the body leaves in the output: the weights unpacked from the two bit planes, the
   product, the scale. -/
module

public import proofs.«01_k».proof.Proof.Trip
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents: the elaborator's structural look recurses once per coordinate
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, k0_cond1, e0]
    word_cmp
   : ∀ t : Fin grid0.N, cond0_0 (grid0.coords t) ↔ t.val % 27 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x80 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x80 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x80 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1536x2560 .bf16 := Memref.whole cc0_scratch0
abbrev scM0_1 : Memref sig .tc .vmem S2x80x256 .i32 := Memref.whole cc0_scratch1
abbrev scM0_2 : Memref sig .tc .vmem S2560x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What one block computes -/

/-- The weight planes: the low halves' and the high halves' codes of each word, one row of 256 outputs per word. -/
def plane (v : ℕ) (x1 x2 : Vec F S256x80 .i32) : IVec S80x256 32 :=
  if v = 0 then
    ori (andi (k0_pay276 (F := F) x1 x2) (broadcast S80x256 65535#32)) (shli (k0_pay277 (F := F) x1 x2) (broadcast S80x256 16#32))
  else k0_pay278 (F := F) x1 x2

/-- One row of a plane, as the kernel loads it back: row `n / 2` of plane `n % 2`. -/
def rowVec (x1 x2 : Vec F S256x80 .i32) (n : Fin 160) : Vec F S1x1x256 .i32 := fun j =>
  plane (F := F) (n.val % 2) x1 x2 (Shape.pair (d := ![80, 256]) ⟨n.val / 2, by have := n.isLt; show _ < 80; omega⟩ (j 2))

/-- The unpacked weights: sixteen rows from each row of a plane. -/
def tOf (x1 x2 : Vec F S256x80 .i32) : Vec F S2560x256 .bf16 := fun y =>
  k0_pay282 (F := F) (rowVec (F := F) x1 x2 ⟨(y 0).val / 16, by have h : (y 0).val < 2560 := (y 0).isLt; omega⟩)
    (Shape.pair (d := ![16, 256]) ⟨(y 0).val % 16, Nat.mod_lt _ (by decide)⟩ (y 1))

/-- The block of the output. -/
def yOf (xb : Vec F S1536x2560 .bf16) (x1 x2 : Vec F S256x80 .i32) (x3 : Vec F S1x256 .bf16) : Vec F S1536x256 .bf16 :=
  k0_pay1 (F := F) (k0_pay494 (F := F) xb (tOf (F := F) x1 x2)) x3

end Cert.KernelIdeal.Run
-- ==== Proof.Weights.lean ====
/- THE UNPACKED WEIGHTS: what the pieces of the two scratch buffers hold. -/
module

public import proofs.«01_k».proof.Proof.Runs

@[expose] public section

-- membership in a rectangle of production extents: the elaborator's structural look recurses once per coordinate
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two planes' pieces. -/
def planePieces (u1 u2 : Vec F S256x80 .i32) : List (View.Piece (Elt F) S2x80x256 .i32) :=
  [⟨Rect.unit ![1, 0, 0] S1x80x256.size inb_S2x80x256_S1x80x256_1_0_0, k0_pay280 (k0_pay278 (F := F) u1 u2)⟩,
   ⟨Rect.unit ![0, 0, 0] S1x80x256.size inb_S2x80x256_S1x80x256_0_0_0, k0_pay279 (F := F) u1 u2⟩]

theorem row_inb (n : Fin 160) : ∀ a, (![n.val % 2, n.val / 2, 0] : Fin 3 → ℕ) a + S1x1x256.size a ≤ S2x80x256.size a := by
  have := n.isLt
  intro a
  fin_cases a
  · show n.val % 2 + 1 ≤ 2; omega
  · show n.val / 2 + 1 ≤ 80; omega
  · show 0 + 256 ≤ 256; omega

/-- One row loaded back from the planes. -/
def rowLoad (arg9 : Memref sig .tc .vmem S2x80x256 .i32) (u1 u2 : Vec F S256x80 .i32) (n : Fin 160) : Vec F S1x1x256 .i32 :=
  arg9.view.readCov (planePieces (F := F) u1 u2) (Rect.unit (s := S2x80x256) ![n.val % 2, n.val / 2, 0] S1x1x256.size (row_inb n)).toLoadRect

theorem wt_inb (n : Fin 160) : ∀ a, (![16 * n.val, 0] : Fin 2 → ℕ) a + S16x256.size a ≤ S2560x256.size a := by
  have := n.isLt
  intro a
  fin_cases a
  · show 16 * n.val + 16 ≤ 2560; omega
  · show 0 + 256 ≤ 256; omega

/-- The unpacked weights' pieces, the last one written first. -/
def wPieces (arg9 : Memref sig .tc .vmem S2x80x256 .i32) (u1 u2 : Vec F S256x80 .i32) : List (View.Piece (Elt F) S2560x256 .bf16) :=
  (List.finRange 160).reverse.map fun n =>
    ⟨Rect.unit (s := S2560x256) ![16 * n.val, 0] S16x256.size (wt_inb n), k0_pay282 (F := F) (rowLoad arg9 u1 u2 n)⟩

/-- A row loaded back is the plane's row. -/
theorem rowLoad_eq (arg9 : Memref sig .tc .vmem S2x80x256 .i32) (u1 u2 : Vec F S256x80 .i32) (n : Fin 160) :
    rowLoad arg9 u1 u2 n = rowVec (F := F) u1 u2 n := by
  have hn := n.isLt
  let G : S2x80x256.Idx → Elt F .i32 := fun y => plane (F := F) (y 0).val u1 u2 (Shape.pair (d := ![80, 256]) (y 1) (y 2))
  have key : ∀ y : S2x80x256.Idx, View.read (Elt F) arg9.view (arg9.view.writes (Elt F) arg9.view.junk (planePieces u1 u2)) y = G y := by
    intro y
    have h0 : (y 0).val < 2 := (y 0).isLt
    have h1 : (y 1).val < 80 := (y 1).isLt
    have h2 : (y 2).val < 256 := (y 2).isLt
    refine View.read_writes_apply_of_pieces _ _ G _ (fun p hp x => ?_) y ?_
    · simp only [planePieces, List.mem_cons, List.not_mem_nil, or_false] at hp
      rcases hp with rfl | rfl
      · have hx : (x 0).val < 1 := (x 0).isLt
        show shapeCast S1x80x256 (plane (F := F) 1 u1 u2) shapeCasts_S80x256_S1x80x256 x = _
        refine (shapeCast_apply (s := S80x256) _ shapeCasts_S80x256_S1x80x256 x (Shape.pair (d := ![80, 256]) (x 1) (x 2)) ?_).trans ?_
        · rw [Shape.rowMajor_val_three, Shape.rowMajor_val_two]
          show (x 1).val * 256 + (x 2).val = ((x 0).val * 80 + (x 1).val) * 256 + (x 2).val
          omega
        · have e : (((Rect.unit (s := S2x80x256) ![1, 0, 0] S1x80x256.size inb_S2x80x256_S1x80x256_1_0_0).emb x) 0).val = 1 := by
            show 1 + 1 * (x 0).val = 1; omega
          show _ = plane (F := F) (((Rect.unit (s := S2x80x256) ![1, 0, 0] S1x80x256.size inb_S2x80x256_S1x80x256_1_0_0).emb x) 0).val u1 u2 _
          rw [e]
          congr 1
          funext a
          fin_cases a
          · exact Fin.ext (show (x 1).val = 0 + 1 * (x 1).val by omega)
          · exact Fin.ext (show (x 2).val = 0 + 1 * (x 2).val by omega)
      · have hx : (x 0).val < 1 := (x 0).isLt
        show shapeCast S1x80x256 (plane (F := F) 0 u1 u2) shapeCasts_S80x256_S1x80x256 x = _
        refine (shapeCast_apply (s := S80x256) _ shapeCasts_S80x256_S1x80x256 x (Shape.pair (d := ![80, 256]) (x 1) (x 2)) ?_).trans ?_
        · rw [Shape.rowMajor_val_three, Shape.rowMajor_val_two]
          show (x 1).val * 256 + (x 2).val = ((x 0).val * 80 + (x 1).val) * 256 + (x 2).val
          omega
        · have e : (((Rect.unit (s := S2x80x256) ![0, 0, 0] S1x80x256.size inb_S2x80x256_S1x80x256_0_0_0).emb x) 0).val = 0 := by
            show 0 + 1 * (x 0).val = 0; omega
          show _ = plane (F := F) (((Rect.unit (s := S2x80x256) ![0, 0, 0] S1x80x256.size inb_S2x80x256_S1x80x256_0_0_0).emb x) 0).val u1 u2 _
          rw [e]
          congr 1
          funext a
          fin_cases a
          · exact Fin.ext (show (x 1).val = 0 + 1 * (x 1).val by omega)
          · exact Fin.ext (show (x 2).val = 0 + 1 * (x 2).val by omega)
    · by_cases hy : (y 0).val = 1
      · refine ⟨_, List.mem_cons_self, ?_⟩
        show y ∈ (Rect.unit (s := S2x80x256) ![1, 0, 0] S1x80x256.size inb_S2x80x256_S1x80x256_1_0_0).set
        refine Rect.mem_set_unit.mpr fun a => ?_
        fin_cases a
        · show 1 ≤ (y 0).val ∧ (y 0).val < 1 + 1; omega
        · show 0 ≤ (y 1).val ∧ (y 1).val < 0 + 80; omega
        · show 0 ≤ (y 2).val ∧ (y 2).val < 0 + 256; omega
      · refine ⟨_, List.mem_cons_of_mem _ List.mem_cons_self, ?_⟩
        show y ∈ (Rect.unit (s := S2x80x256) ![0, 0, 0] S1x80x256.size inb_S2x80x256_S1x80x256_0_0_0).set
        refine Rect.mem_set_unit.mpr fun a => ?_
        fin_cases a
        · show 0 ≤ (y 0).val ∧ (y 0).val < 0 + 1; omega
        · show 0 ≤ (y 1).val ∧ (y 1).val < 0 + 80; omega
        · show 0 ≤ (y 2).val ∧ (y 2).val < 0 + 256; omega
  funext j
  have hj0 : (j 0).val < 1 := (j 0).isLt
  have hj1 : (j 1).val < 1 := (j 1).isLt
  refine (key _).trans ?_
  have e : (((Rect.unit (s := S2x80x256) ![n.val % 2, n.val / 2, 0] S1x1x256.size (row_inb n)).toLoadRect.idx j) 0).val = n.val % 2 := by
    show n.val % 2 + 1 * (j 0).val = _; omega
  show plane (F := F) (((Rect.unit (s := S2x80x256) ![n.val % 2, n.val / 2, 0] S1x1x256.size (row_inb n)).toLoadRect.idx j) 0).val u1 u2 _ = plane (F := F) (n.val % 2) u1 u2 _
  rw [e]
  congr 1
  funext a
  fin_cases a
  · exact Fin.ext (show n.val / 2 + 1 * (j 1).val = n.val / 2 by omega)
  · exact Fin.ext (show 0 + 1 * (j 2).val = (j 2).val by omega)

/-- The unpacked weights loaded back whole. -/
theorem wt_read (arg9 : Memref sig .tc .vmem S2x80x256 .i32) (arg10 : Memref sig .tc .vmem S2560x256 .bf16) (u1 u2 : Vec F S256x80 .i32) :
    arg10.view.readCov (wPieces (F := F) arg9 u1 u2) (Rect.unit (s := S2560x256) ![0, 0] S2560x256.size inb_S2560x256_S2560x256_0_0).toLoadRect = tOf u1 u2 := by
  funext j
  have hj0 : (j 0).val < 2560 := (j 0).isLt
  have hj1 : (j 1).val < 256 := (j 1).isLt
  have ej : (Rect.unit (s := S2560x256) ![0, 0] S2560x256.size inb_S2560x256_S2560x256_0_0).toLoadRect.idx j = j := by
    funext a
    fin_cases a
    · exact Fin.ext (show 0 + 1 * (j 0).val = (j 0).val by omega)
    · exact Fin.ext (show 0 + 1 * (j 1).val = (j 1).val by omega)
  show View.read (Elt F) arg10.view _ ((Rect.unit (s := S2560x256) ![0, 0] S2560x256.size inb_S2560x256_S2560x256_0_0).toLoadRect.idx j) = _
  rw [ej]
  refine View.read_writes_apply_of_pieces _ _ (tOf (F := F) u1 u2) _ (fun p hp x => ?_) j ?_
  · obtain ⟨n, -, rfl⟩ := List.mem_map.mp hp
    have hx0 : (x 0).val < 16 := (x 0).isLt
    have hx1 : (x 1).val < 256 := (x 1).isLt
    dsimp only
    rw [rowLoad_eq]
    have a : ∀ (n₁ : Fin 160) (x₁ : S16x256.Idx), n₁ = n → x₁ = x → k0_pay282 (F := F) (rowVec u1 u2 n) x = k0_pay282 (F := F) (rowVec u1 u2 n₁) x₁ := by
      rintro _ _ rfl rfl; rfl
    refine a _ _ (Fin.ext ?_) ?_
    · show (16 * n.val + 1 * (x 0).val) / 16 = n.val
      omega
    · funext b
      fin_cases b
      · exact Fin.ext (show (16 * n.val + 1 * (x 0).val) % 16 = (x 0).val by omega)
      · exact Fin.ext (show 0 + 1 * (x 1).val = (x 1).val by omega)
  · refine ⟨_, List.mem_map.mpr ⟨⟨(j 0).val / 16, by omega⟩, by simp, rfl⟩, ?_⟩
    show j ∈ (Rect.unit (s := S2560x256) ![16 * ((j 0).val / 16), 0] S16x256.size (wt_inb ⟨(j 0).val / 16, by omega⟩)).set
    refine Rect.mem_set_unit.mpr fun a => ?_
    fin_cases a
    · show 16 * ((j 0).val / 16) ≤ (j 0).val ∧ (j 0).val < 16 * ((j 0).val / 16) + 16; omega
    · show 0 ≤ (j 1).val ∧ (j 1).val < 0 + 256; omega

/-- A whole rectangle of a whole buffer reads what the buffer holds. -/
theorem readAt_whole2 {n k : ℕ} {e : EltTy} {M : Memref sig .tc .vmem ⟨2, ![n, k]⟩ e} (hM : M.IsWhole) (x : Vec F ⟨2, ![n, k]⟩ e)
    (inb : ∀ a, (![0, 0] : Fin 2 → ℕ) a + (![n, k] : Fin 2 → ℕ) a ≤ (⟨2, ![n, k]⟩ : Shape).size a) :
    View.readAt (Elt F) M.view (Rect.unit (s := ⟨2, ![n, k]⟩) ![0, 0] ![n, k] inb).toLoadRect (hM.unread x) = x := by
  funext j
  have ej : (Rect.unit (s := ⟨2, ![n, k]⟩) ![0, 0] ![n, k] inb).toLoadRect.idx j = j := by
    funext a
    fin_cases a
    · exact Fin.ext (show 0 + 1 * (j 0).val = (j 0).val by omega)
    · exact Fin.ext (show 0 + 1 * (j 1).val = (j 1).val by omega)
  show View.read (Elt F) M.view _ ((Rect.unit (s := ⟨2, ![n, k]⟩) ![0, 0] ![n, k] inb).toLoadRect.idx j) = _
  rw [ej, hM.read_unread]

/-- One piece over a whole buffer leaves the buffer at the piece. -/
theorem read_writes_whole2 {n k : ℕ} {e : EltTy} (M : Memref sig .tc .vmem ⟨2, ![n, k]⟩ e) (f : BufTy.Contents (Elt F) M.view.ty) (w : Vec F ⟨2, ![n, k]⟩ e)
    (inb : ∀ a, (![0, 0] : Fin 2 → ℕ) a + (![n, k] : Fin 2 → ℕ) a ≤ (⟨2, ![n, k]⟩ : Shape).size a) :
    View.read (Elt F) M.view (M.view.writes (Elt F) f [⟨Rect.unit (s := ⟨2, ![n, k]⟩) ![0, 0] ![n, k] inb, w⟩]) = w := by
  funext y
  have h0 : (y 0).val < n := (y 0).isLt
  have h1 : (y 1).val < k := (y 1).isLt
  refine View.read_writes_apply_of_pieces _ _ w _ (fun p hp x => ?_) y ⟨_, List.mem_cons_self, ?_⟩
  · obtain rfl := List.mem_singleton.mp hp
    show w x = w _
    congr 1
    funext a
    fin_cases a
    · exact Fin.ext (show (x 0).val = 0 + 1 * (x 0).val by omega)
    · exact Fin.ext (show (x 1).val = 0 + 1 * (x 1).val by omega)
  · show y ∈ (Rect.unit (s := ⟨2, ![n, k]⟩) ![0, 0] ![n, k] inb).set
    refine Rect.mem_set_unit.mpr fun a => ?_
    fin_cases a
    · show 0 ≤ (y 0).val ∧ (y 0).val < 0 + n; omega
    · show 0 ≤ (y 1).val ∧ (y 1).val < 0 + k; omega

/-- The output block as the body leaves it, from what its loads read. -/
theorem y_read {arg2 : Memref sig .tc .vmem S256x80 .i32} (harg2 : arg2.IsWhole) {arg3 : Memref sig .tc .vmem S256x80 .i32} (harg3 : arg3.IsWhole)
    {arg4 : Memref sig .tc .vmem S1x256 .bf16} (harg4 : arg4.IsWhole) (arg5 : Memref sig .tc .vmem S1536x256 .bf16)
    {arg8 : Memref sig .tc .vmem S1536x2560 .bf16} (harg8 : arg8.IsWhole) (arg9 : Memref sig .tc .vmem S2x80x256 .i32) (arg10 : Memref sig .tc .vmem S2560x256 .bf16)
    (f4 : BufTy.Contents (Elt F) arg5.view.ty) (xb : Vec F S1536x2560 .bf16) (x1 x2 : Vec F S256x80 .i32) (x3 : Vec F S1x256 .bf16) :
    View.read (Elt F) arg5.view (arg5.view.writes (Elt F) f4
      [⟨Rect.unit (s := S1536x256) ![0, 0] ![1536, 256] inb_S1536x256_S1536x256_0_0,
        k0_pay1 (F := F) (k0_pay494 (F := F)
            (View.readAt (Elt F) arg8.view (Rect.unit (s := S1536x2560) ![0, 0] ![1536, 2560] inb_S1536x2560_S1536x2560_0_0).toLoadRect (harg8.unread xb))
            (arg10.view.readCov (wPieces (F := F) arg9
              (View.readAt (Elt F) arg2.view (Rect.unit (s := S256x80) ![0, 0] ![256, 80] inb_S256x80_S256x80_0_0).toLoadRect (harg2.unread x1))
              (View.readAt (Elt F) arg3.view (Rect.unit (s := S256x80) ![0, 0] ![256, 80] inb_S256x80_S256x80_0_0).toLoadRect (harg3.unread x2)))
              (Rect.unit (s := S2560x256) ![0, 0] S2560x256.size inb_S2560x256_S2560x256_0_0).toLoadRect))
          (View.readAt (Elt F) arg4.view (Rect.unit (s := S1x256) ![0, 0] ![1, 256] inb_S1x256_S1x256_0_0).toLoadRect (harg4.unread x3))⟩])
      = yOf xb x1 x2 x3 := by
  refine (read_writes_whole2 arg5 f4 _ _).trans ?_
  unfold yOf
  refine congrArg₂ (k0_pay1 (F := F)) (congrArg₂ (k0_pay494 (F := F)) (readAt_whole2 harg8 xb _) ((wt_read arg9 arg10 _ _).trans
    (congrArg₂ (tOf (F := F)) (readAt_whole2 harg2 x1 _) (readAt_whole2 harg3 x2 _)))) (readAt_whole2 harg4 x3 _)

end Cert.KernelIdeal.Run
-- ==== Proof.RunA.lean ====
/- THE BODY AT THE FIRST POINT. -/
module

public import proofs.«01_k».proof.Proof.Weights

@[expose] public section

-- membership in a rectangle of production extents: the elaborator's structural look recurses once per coordinate
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem kernelRun0_A (c : Dev nD) (i : grid0.Coords) (arg1 : Memref sig .tc .vmem S1536x2560 .bf16) (harg1 : arg1.IsWhole) (arg2 : Memref sig .tc .vmem S256x80 .i32) (harg2 : arg2.IsWhole) (arg3 : Memref sig .tc .vmem S256x80 .i32) (harg3 : arg3.IsWhole) (arg4 : Memref sig .tc .vmem S1x256 .bf16) (harg4 : arg4.IsWhole) (arg5 : Memref sig .tc .vmem S1536x256 .bf16) (harg5 : arg5.IsWhole) (arg6 : Memref sig .tc .vmem S1536x2560 .fp8e4m3) (harg6 : arg6.IsWhole) (arg7 : Memref sig .tc .vmem S1536x80 .f32) (harg7 : arg7.IsWhole) (arg8 : Memref sig .tc .vmem S1536x2560 .bf16) (harg8 : arg8.IsWhole) (arg9 : Memref sig .tc .vmem S2x80x256 .i32) (harg9 : arg9.IsWhole) (arg10 : Memref sig .tc .vmem S2560x256 .bf16) (harg10 : arg10.IsWhole) (hc0 : cond0_0 i)
    (x0 : Vec F S1536x2560 .bf16) (x1 : Vec F S256x80 .i32) (x2 : Vec F S256x80 .i32) (x3 : Vec F S1x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yOf (F := F) (xbOf (F := F) x0) x1 x2 x3) ∗ owns (c : Thread nD τ) arg6 fullShare (codesOf (F := F) x0) ∗ owns (c : Thread nD τ) arg7 fullShare (scalesOf (F := F) x0) ∗ owns (c : Thread nD τ) arg8 fullShare (xbOf (F := F) x0) ∗ (∃ d, owns (c : Thread nD τ) arg9 fullShare d) ∗ (∃ d, owns (c : Thread nD τ) arg10 fullShare d)) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8 arg9 harg9 arg10 harg10) K := by
    intro E K
    simp only [cc0_ternary_linear_eq_skeleton]; unfold cc0_ternary_linear_skel
    simp only [k0_part119_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    rw [hf0]
    iapply Hk
    isplitl [HL0]
    · iexists _; isplitr; · ipureintro; exact harg1.read_unread _
      iexact HL0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine Eq.trans (by sl_kernel_rfl) ((y_read harg2 harg3 harg4 arg5 harg8 arg9 arg10 f4 (xbOf (F := F) (View.read (Elt F) arg1.view (harg1.unread x0))) x1 x2 x3).trans ?_)
      rw [hf0]
    isplitl [HL1]
    · iexists _; isplitr; · ipureintro; exact harg6.read_unread _
      iexact HL1
    isplitl [HL2]
    · iexists _; isplitr; · ipureintro; exact harg7.read_unread _
      iexact HL2
    isplitl [HL3]
    · iexists _; isplitr; · ipureintro; exact harg8.read_unread _
      iexact HL3
    isplitl [HS1]
    · iexists _, _; isplitr; swap; · iexact HS1
      ipureintro; rfl
    · iexists _, _; isplitr; swap; · iexact HS2
      ipureintro; rfl

end Cert.KernelIdeal.Run
-- ==== Proof.RunB.lean ====
/- THE BODY AT A LATER POINT. -/
module

public import proofs.«01_k».proof.Proof.Weights

@[expose] public section

-- membership in a rectangle of production extents: the elaborator's structural look recurses once per coordinate
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem kernelRun0_B (c : Dev nD) (i : grid0.Coords) (arg1 : Memref sig .tc .vmem S1536x2560 .bf16) (harg1 : arg1.IsWhole) (arg2 : Memref sig .tc .vmem S256x80 .i32) (harg2 : arg2.IsWhole) (arg3 : Memref sig .tc .vmem S256x80 .i32) (harg3 : arg3.IsWhole) (arg4 : Memref sig .tc .vmem S1x256 .bf16) (harg4 : arg4.IsWhole) (arg5 : Memref sig .tc .vmem S1536x256 .bf16) (harg5 : arg5.IsWhole) (arg6 : Memref sig .tc .vmem S1536x2560 .fp8e4m3) (harg6 : arg6.IsWhole) (arg7 : Memref sig .tc .vmem S1536x80 .f32) (harg7 : arg7.IsWhole) (arg8 : Memref sig .tc .vmem S1536x2560 .bf16) (harg8 : arg8.IsWhole) (arg9 : Memref sig .tc .vmem S2x80x256 .i32) (harg9 : arg9.IsWhole) (arg10 : Memref sig .tc .vmem S2560x256 .bf16) (harg10 : arg10.IsWhole) (hc0 : ¬ cond0_0 i)
    (x0 : Vec F S1536x2560 .bf16) (x1 : Vec F S256x80 .i32) (x2 : Vec F S256x80 .i32) (x3 : Vec F S1x256 .bf16) (xb : Vec F S1536x2560 .bf16) (d6 : Vec F S1536x2560 .fp8e4m3) (d7 : Vec F S1536x80 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d6 ∗ owns (c : Thread nD τ) arg7 fullShare d7 ∗ owns (c : Thread nD τ) arg8 fullShare xb ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yOf (F := F) xb x1 x2 x3) ∗ owns (c : Thread nD τ) arg6 fullShare d6 ∗ owns (c : Thread nD τ) arg7 fullShare d7 ∗ owns (c : Thread nD τ) arg8 fullShare xb ∗ (∃ d, owns (c : Thread nD τ) arg9 fullShare d) ∗ (∃ d, owns (c : Thread nD τ) arg10 fullShare d)) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8 arg9 harg9 arg10 harg10) K := by
    intro E K
    simp only [cc0_ternary_linear_eq_skeleton]; unfold cc0_ternary_linear_skel
    simp only [k0_part119_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact Eq.trans (by sl_kernel_rfl) (y_read harg2 harg3 harg4 arg5 harg8 arg9 arg10 f4 xb x1 x2 x3)
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _, _; isplitr; swap; · iexact HS1
      ipureintro; rfl
    · iexists _, _; isplitr; swap; · iexact HS2
      ipureintro; rfl

end Cert.KernelIdeal.Run
-- ==== Proof.Frame.lean ====
/- THE FRAME OF THE KERNEL at any values: the proof data, the body obligation, the run, and the frame claim. -/
module

public import proofs.«01_k».proof.Proof.RunA
public import proofs.«01_k».proof.Proof.RunB
public import Idealize.ShloMosaic.Lib.Claim
public import Idealize.ShloMosaic.Lib.Pipeline.TableIdle

@[expose] public section

-- membership in a rectangle of production extents: the elaborator's structural look recurses once per coordinate
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev t00 : Fin cfg0.N := ⟨0, by decide⟩

/-- The whole of the activations, as the region finds them. -/
def X0 (c : Dev nD) : Vec F S1536x2560 .bf16 := iblk m c 0 t00

theorem iblk0_eq (c : Dev nD) (t : Fin cfg0.N) : iblk m c 0 t = X0 m c := rfl

/-- What the kernel's scratch holds after the first point: the dequantised activations. -/
def PhiB (c : Dev nD) : sProp 𝕄 :=
  iprop((owns (c : Thread nD τ) scM0_0 fullShare (xbOf (F := F) (X0 m c)) ∗ (∃ d, owns (c : Thread nD τ) scM0_1 fullShare d) ∗ (∃ d, owns (c : Thread nD τ) scM0_2 fullShare d)) ∗ (∃ r, prngReg c r))

/-- The proof data: each input's buffer at its block, the output's block, the codes and the scales of the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOf (F := F) (xbOf (F := F) (X0 m c)) (iblk m c 1 t) (iblk m c 2 t) (iblk m c 3 t)
    | ⟨5, _⟩ => codesOf (F := F) (X0 m c)
    | ⟨6, _⟩ => scalesOf (F := F) (X0 m c)
  Φ t := if t.val = 0 then Pipeline.ΦA spec0 c else PhiB m c
  q _ := fullShare
  owed _ := 0

/-- The invariant before the first point is the class's, -/
theorem Phi_zero (c : Dev nD) (t : Fin (cfg0.N + 1)) (h : t.val = 0) : (dats (F := F) m 0 c).Φ t = Pipeline.ΦA spec0 c := if_pos h

/-- later the tracked one. -/
theorem Phi_pos (c : Dev nD) (t : Fin (cfg0.N + 1)) (h : ¬ t.val = 0) : (dats (F := F) m 0 c).Φ t = PhiB m c := if_neg h

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yOf (F := F) (xbOf (F := F) (X0 m c)) (iblk m c 1 t) (iblk m c 2 t) (iblk m c 3 t) := by dsimp only [dats]
theorem after0_5 (c : Dev nD) (t : Fin cfg0.N) : (dats m 0 c).after 5 t = codesOf (F := F) (X0 m c) := by dsimp only [dats]
theorem after0_6 (c : Dev nD) (t : Fin cfg0.N) : (dats m 0 c).after 6 t = scalesOf (F := F) (X0 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two results stored at the first point only -/

theorem idle0_5 (t : Fin cfg0.N) : cfg0.idle 5 (grid0.coords t) = !decide (t.val = 0) := by
  have hN : t.val < 27 := lt_of_lt_of_eq t.isLt (show cfg0.N = 27 from N_0)
  show (!(k0_cond1 (grid0.coords t) == 1#1)) = _
  have h := hcond0_0 t
  by_cases h0 : t.val = 0
  · rw [show k0_cond1 (grid0.coords t) = 1#1 from h.mpr (by omega)]; simp [h0]
  · have : ¬ k0_cond1 (grid0.coords t) = 1#1 := fun e => h0 (by have := h.mp e; omega)
    simp [h0, this]
theorem idle0_6 (t : Fin cfg0.N) : cfg0.idle 6 (grid0.coords t) = !decide (t.val = 0) := idle0_5 t

theorem live0_5 (t : Fin cfg0.N) (h0 : t.val = 0) : cfg0.idle 5 (grid0.coords t) = false := by rw [idle0_5]; simp [h0]
theorem live0_6 (t : Fin cfg0.N) (h0 : t.val = 0) : cfg0.idle 6 (grid0.coords t) = false := by rw [idle0_6]; simp [h0]

/-- After the first point the buffer of window 5 holds what the first point stored. -/
theorem fresh0_5 : ∀ n, n ≤ cfg0.N → cfg0.fresh 5 n = (decide (n = 0) || decide (n = 27)) :=
  cfg0.fresh_tab 5 _ (by decide) fun t => by
    have hN : t.val < 27 := lt_of_lt_of_eq t.isLt (show cfg0.N = 27 from N_0)
    have hf := flush0_5 t
    have hi := idle0_5 t
    rw [show cfg0.idle 5 (cfg0.grid.coords t) = !decide (t.val = 0) from hi]
    by_cases h : t.val = 26
    · rw [hf.mpr (by omega)]; simp [h]
    · have : (cfg0.win 5).flush t = false := by
        rw [← Bool.not_eq_true]; exact fun e => h (by have := hf.mp e; omega)
      rw [this]
      by_cases h0 : t.val = 0
      · simp [h0]
      · have h27 : ¬ t.val = 27 := by omega
        simp [h, h0, h27]
theorem fresh0_6 : ∀ n, n ≤ cfg0.N → cfg0.fresh 6 n = (decide (n = 0) || decide (n = 27)) :=
  cfg0.fresh_tab 6 _ (by decide) fun t => by
    have hN : t.val < 27 := lt_of_lt_of_eq t.isLt (show cfg0.N = 27 from N_0)
    have hf := flush0_6 t
    have hi := idle0_6 t
    rw [show cfg0.idle 6 (cfg0.grid.coords t) = !decide (t.val = 0) from hi]
    by_cases h : t.val = 26
    · rw [hf.mpr (by omega)]; simp [h]
    · have : (cfg0.win 6).flush t = false := by
        rw [← Bool.not_eq_true]; exact fun e => h (by have := hf.mp e; omega)
      rw [this]
      by_cases h0 : t.val = 0
      · simp [h0]
      · have h27 : ¬ t.val = 27 := by omega
        simp [h, h0, h27]

theorem before0_5 (c : Dev nD) (t : Fin cfg0.N) (h0 : t.val ≠ 0) (d) : (dats m 0 c).before 5 t d = codesOf (F := F) (X0 m c) := by
  have hN : t.val < 27 := lt_of_lt_of_eq t.isLt (show cfg0.N = 27 from N_0)
  rw [(dats m 0 c).before_out_traj 5 rfl (fun _ _ => rfl) (fun _ _ _ _ => by rw [after0_5, after0_5]) t.val t rfl d,
    fresh0_5 t.val (Nat.le_of_lt t.isLt), after0_5]
  have h27 : ¬ t.val = 27 := by omega
  simp [h0, h27]
theorem before0_6 (c : Dev nD) (t : Fin cfg0.N) (h0 : t.val ≠ 0) (d) : (dats m 0 c).before 6 t d = scalesOf (F := F) (X0 m c) := by
  have hN : t.val < 27 := lt_of_lt_of_eq t.isLt (show cfg0.N = 27 from N_0)
  rw [(dats m 0 c).before_out_traj 6 rfl (fun _ _ => rfl) (fun _ _ _ _ => by rw [after0_6, after0_6]) t.val t rfl d,
    fresh0_6 t.val (Nat.le_of_lt t.isLt), after0_6]
  have h27 : ¬ t.val = 27 := by omega
  simp [h0, h27]

/-- What a later point hands back of the two results: what it found. -/
theorem leaves5 (c : Dev nD) (t : Fin cfg0.N) (h0 : t.val ≠ 0) :
    (owns (c : Thread nD τ) (ms0_5 t) fullShare (codesOf (F := F) (X0 m c)) : sProp 𝕄) ⊢ (dats m 0 c).leavesExact 5 t := by
  have hi : cfg0.idle 5 (cfg0.grid.coords t) = true := by
    show cfg0.idle 5 (grid0.coords t) = true
    rw [idle0_5]; simp [h0]
  by_cases hf : (cfg0.win 5).flush t = true
  · rw [show (dats m 0 c).leavesExact 5 t = owns (c : Thread nD τ) (ms0_5 t) fullShare ((dats m 0 c).after 5 t) from by
      unfold Dat.leavesExact; rw [hi, hf], after0_5]
  · rw [(dats m 0 c).leavesExact_idle 5 t hi (by simpa using hf)]
    simp only [before0_5 m c t h0]
    iintro H
    iexists (codesOf (F := F) (X0 m c))
    iexact H
theorem leaves6 (c : Dev nD) (t : Fin cfg0.N) (h0 : t.val ≠ 0) :
    (owns (c : Thread nD τ) (ms0_6 t) fullShare (scalesOf (F := F) (X0 m c)) : sProp 𝕄) ⊢ (dats m 0 c).leavesExact 6 t := by
  have hi : cfg0.idle 6 (cfg0.grid.coords t) = true := by
    show cfg0.idle 6 (grid0.coords t) = true
    rw [idle0_6]; simp [h0]
  by_cases hf : (cfg0.win 6).flush t = true
  · rw [show (dats m 0 c).leavesExact 6 t = owns (c : Thread nD τ) (ms0_6 t) fullShare ((dats m 0 c).after 6 t) from by
      unfold Dat.leavesExact; rw [hi, hf], after0_6]
  · rw [(dats m 0 c).leavesExact_idle 6 t hi (by simpa using hf)]
    simp only [before0_6 m c t h0]
    iintro H
    iexists (scalesOf (F := F) (X0 m c))
    iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [Phi_pos m c t.succ (by simp)]
  have hN : t.val < 27 := lt_of_lt_of_eq t.isLt (show cfg0.N = 27 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from rfl, after0_4]
  simp only [iblk0_eq]
  by_cases h0 : t.val = 0
  · have hm : t.val % 27 = 0 := by omega
    rw [Phi_zero m c t.castSucc h0, PhiA0_eq]
    rw [show (dats m 0 c).leavesExact 5 t = owns (c : Thread nD τ) (ms0_5 t) fullShare ((dats m 0 c).after 5 t) from by
      unfold Dat.leavesExact; rw [live0_5 t h0], after0_5]
    rw [show (dats m 0 c).leavesExact 6 t = owns (c : Thread nD τ) (ms0_6 t) fullShare ((dats m 0 c).after 6 t) from by
      unfold Dat.leavesExact; rw [live0_6 t h0], after0_6]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ ((hcond0_0 t).mpr hm) (X0 m c) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · unfold PhiB
      isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hm : ¬ t.val % 27 = 0 := by omega
    rw [Phi_pos m c t.castSucc h0]
    simp only [before0_5 m c t h0, before0_6 m c t h0]
    unfold PhiB
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (fun h => hm ((hcond0_0 t).mp h)) (X0 m c) (iblk m c 1 t) (iblk m c 2 t) (iblk m c 3 t) (xbOf (X0 m c)) (codesOf (X0 m c)) (scalesOf (X0 m c))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply leaves5 m c t h0; iexact H5
    iapply leaves6 m c t h0; iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : (Pipeline.ΦA spec0 c : sProp 𝕄) ⊢ (dats (F := F) m 0 c).Φ 0 := by
  rw [show (dats (F := F) m 0 c).Φ 0 = Pipeline.ΦA spec0 c from rfl]

theorem hout (c : Dev nD) : (dats (F := F) m 0 c).Φ (Fin.last cfg0.N) ⊢ (Pipeline.ΦA spec0 c : sProp 𝕄) := by
  rw [Phi_pos m c (Fin.last cfg0.N) (by rw [Fin.val_last, show cfg0.N = 27 from N_0]; decide), PhiA0_eq]
  unfold PhiB
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The launch: every weakly fair execution ends, with the arrays as the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run
-- ==== Proof.KQuant.lean ====
/- THE QUANTISER'S VECTORS, STRUCTURED: the values one trip of the kernel's row loop computes (32 rows of `x`, as
   twenty tiles of 128 lanes), written as short definitions over tiles — the lane permutation, one stage of the
   tree of maxima, the tree, the search for a scale's exponent, a tile of codes, a tile of dequantised values, the
   gather of the scales — and the equations saying that the trip's payloads are these. -/
module

public import proofs.«01_k».proof.Proof.Gen.Kernel.Loops

@[expose] public section

set_option maxRecDepth 16384

noncomputable section

namespace Cert.Kernel.Quant

open Idealize.ShloMosaic Idealize.ShloMosaic.TcCoe Idealize.ShloMosaic.Tactic
open Cert.Kernel Cert.Kernel.Gen

variable {F : FTy → Type} [BitOps F]

/-- The lane numbers of a tile's even (or odd) rows. -/
def lane16 : IVec S16x128 32 := iota .tc S16x128 32 [1] iota_S16x128_d1_w32

/-- Lane indices given for sixteen rows, for both halves of a tile, negative ones counted from the end. -/
def wrapIdx (w : IVec S32x128 32) : IVec S32x128 32 :=
  shapeCast S32x128 (shapeCast S32x128x1
    (select (cmpi .slt w (broadcast S32x128 0#32)) (addi w (broadcast S32x128 128#32)) w)
    shapeCasts_S32x128_S32x128x1) shapeCasts_S32x128x1_S32x128

/-- Sixteen rows of indices, twice. -/
def idx2 (w : IVec S16x128 32) : IVec S32x128 32 :=
  concatenate S32x128 0 [⟨S16x128, w⟩, ⟨S16x128, w⟩] concatenates_S16x128_S16x128_S32x128_d0

/-- A tile's lanes permuted by `w`. -/
def perm (x : FVec F S32x128 .bf16) (w : IVec S16x128 32) : FVec F S32x128 .bf16 :=
  truncf .bf16 (dynamicGather 1 (extf .f32 x bitsLt_bf16_f32) (wrapIdx (idx2 w))) bitsLt_bf16_f32

/-- `a` where the mask holds, `b` elsewhere: on pairs of rows. -/
def pick (m : IVec S16x128 1) (a b : FVec F S32x128 .bf16) : FVec F S32x128 .bf16 :=
  bitcastToFloat .bf16 (bitcast S32x128 16
    (select m (bitcast S16x128 32 (bitcastToInt a) bitcasts_S32x128_w16_S16x128_w32)
      (bitcast S16x128 32 (bitcastToInt b) bitcasts_S32x128_w16_S16x128_w32)) bitcasts_S16x128_w32_S32x128_w16)

/-- The lanes whose bit `s` is clear. -/
def low (s : BitVec 32) : IVec S16x128 1 :=
  cmpi .eq (andi lane16 (broadcast S16x128 s)) (broadcast S16x128 0#32)

/-- One stage of the tree on two tiles, its partner lanes at distance `s`, -/
def stage (s : BitVec 32) (a b : FVec F S32x128 .bf16) : FVec F S32x128 .bf16 :=
  maximumf (pick (low s) a b) (perm (pick (low s) b a) (xori lane16 (broadcast S16x128 s)))

/-- and on one tile left without a partner. -/
def stage1 (s : BitVec 32) (a : FVec F S32x128 .bf16) : FVec F S32x128 .bf16 :=
  maximumf a (perm a (xori lane16 (broadcast S16x128 s)))

/-- The tree's levels over the twenty tiles `x`. -/
def lev1 (x : Fin 20 → FVec F S32x128 .bf16) (i : Fin 10) : FVec F S32x128 .bf16 :=
  stage 1#32 (absf (x ⟨2 * i.val, by omega⟩)) (absf (x ⟨2 * i.val + 1, by omega⟩))
def lev2 (x : Fin 20 → FVec F S32x128 .bf16) (i : Fin 5) : FVec F S32x128 .bf16 :=
  stage 2#32 (lev1 x ⟨2 * i.val, by omega⟩) (lev1 x ⟨2 * i.val + 1, by omega⟩)
def lev4 (x : Fin 20 → FVec F S32x128 .bf16) (i : Fin 2) : FVec F S32x128 .bf16 :=
  stage 4#32 (lev2 x ⟨2 * i.val, by omega⟩) (lev2 x ⟨2 * i.val + 1, by omega⟩)
def lev4' (x : Fin 20 → FVec F S32x128 .bf16) : FVec F S32x128 .bf16 := stage1 4#32 (lev2 x 4)
def lev8 (x : Fin 20 → FVec F S32x128 .bf16) : FVec F S32x128 .bf16 := stage 8#32 (lev4 x 0) (lev4 x 1)
def lev8' (x : Fin 20 → FVec F S32x128 .bf16) : FVec F S32x128 .bf16 := stage1 8#32 (lev4' x)
def lev16 (x : Fin 20 → FVec F S32x128 .bf16) : FVec F S32x128 .bf16 := stage 16#32 (lev8 x) (lev8' x)

/-- The blocks' maxima times the reciprocal of 448. -/
def vmax (x : Fin 20 → FVec F S32x128 .bf16) : FVec F S32x128 .f32 :=
  mulf (extf .f32 (lev16 x) bitsLt_bf16_f32) (broadcast S32x128 (Scalar.ofBits .f32 0x3B124925#32 : F .f32))

/-- One step of the search for the exponent: `s` is added to the exponent field if `v` is no less than the power of
    two it gives. -/
def step (v : FVec F S32x128 .f32) (s : BitVec 32) (b : IVec S32x128 32) : IVec S32x128 32 :=
  select (cmpf .oge v (bitcastToFloat .f32 (shli (addi b (broadcast S32x128 s)) (broadcast S32x128 23#32))))
    (addi b (broadcast S32x128 s)) b

/-- The exponent field found, -/
def search (v : FVec F S32x128 .f32) : IVec S32x128 32 :=
  step v 1#32 (step v 2#32 (step v 4#32 (step v 8#32 (step v 16#32 (step v 32#32 (step v 64#32
    (step v 128#32 (broadcast S32x128 0#32))))))))

/-- one more, or the field of 1 where it is zero. -/
def exps (v : FVec F S32x128 .f32) : IVec S32x128 32 :=
  select (cmpi .eq (search v) (broadcast S32x128 0#32)) (broadcast S32x128 127#32) (addi (search v) (broadcast S32x128 1#32))

/-- The scale, -/
def scaleV (v : FVec F S32x128 .f32) : FVec F S32x128 .f32 :=
  bitcastToFloat .f32 (shli (exps v) (broadcast S32x128 23#32))

/-- and its reciprocal. -/
def invV (v : FVec F S32x128 .f32) : FVec F S32x128 .f32 :=
  bitcastToFloat .f32 (shli (subi (broadcast S32x128 254#32) (exps v)) (broadcast S32x128 23#32))

/-- The lane group's start. -/
def group16 : IVec S16x128 32 := andi lane16 (broadcast S16x128 4294967264#32)

/-- Every lane of a tile at the lane of its group that holds column tile `c`'s value. -/
def spread (x : FVec F S32x128 .bf16) (c : BitVec 32) : FVec F S32x128 .bf16 :=
  perm x (addi group16 (broadcast S16x128 c))

/-- A tile of codes, before the cast, -/
def clipTile (x inv : FVec F S32x128 .bf16) (c : BitVec 32) : FVec F S32x128 .bf16 :=
  minimumf (broadcast S32x128 (Scalar.ofBits .bf16 0x43E0#16 : F .bf16))
    (maximumf (broadcast S32x128 (Scalar.ofBits .bf16 0xC3E0#16 : F .bf16)) (mulf x (spread inv c)))

/-- after it, -/
def codeTile (x inv : FVec F S32x128 .bf16) (c : BitVec 32) : FVec F S32x128 .fp8e4m3 :=
  truncf .fp8e4m3 (clipTile x inv c) bitsLt_fp8e4m3_bf16

/-- and a tile of dequantised values. -/
def xbTile (x sc inv : FVec F S32x128 .bf16) (c : BitVec 32) : FVec F S32x128 .bf16 :=
  shapeCast S32x128 (mulf (extf .bf16 (codeTile x inv c) bitsLt_fp8e4m3_bf16) (spread sc c)) shapeCasts_S32x128_S32x128

/-- The lane numbers of a whole tile; a lane number divided by four, rounding down; its remainder. -/
def lane32 : IVec S32x128 32 := iota .tc S32x128 32 [1] iota_S32x128_d1_w32
def sgn32 : IVec S32x128 32 :=
  subi (extui 32 (cmpi .sgt lane32 (broadcast S32x128 0#32)) natLt_1_32) (extui 32 (cmpi .slt lane32 (broadcast S32x128 0#32)) natLt_1_32)
def sgn4 : BitVec 32 := Scalar.subi (Scalar.extui (Scalar.cmpi .sgt 4#32 0#32)) (Scalar.extui (Scalar.cmpi .slt 4#32 0#32))
def div4 : IVec S32x128 32 :=
  select (andi (cmpi .ne sgn32 (broadcast S32x128 sgn4)) (cmpi .ne (remsi lane32 (broadcast S32x128 4#32)) (broadcast S32x128 0#32)))
    (subi (divsi lane32 (broadcast S32x128 4#32)) (broadcast S32x128 1#32)) (divsi lane32 (broadcast S32x128 4#32))
def four : BitVec 32 := Scalar.select (Scalar.cmpi .eq 4#32 0#32) 1#32 4#32
def rem4' : IVec S32x128 32 := remsi lane32 (broadcast S32x128 four)
def rem4 : IVec S32x128 32 :=
  select (andi (xori (cmpi .slt rem4' (broadcast S32x128 0#32))
      (broadcastTo S32x128 (broadcast S32x128 (Scalar.cmpi .slt four 0#32)) broadcasts_S32x128_S32x128))
    (cmpi .ne rem4' (broadcast S32x128 0#32))) (addi rem4' (broadcast S32x128 four)) rem4'

/-- The lane each of the first `4 * n` scales is found at. -/
def srcLane : ℕ → IVec S32x128 32
  | 0 => broadcast S32x128 0#32
  | n + 1 => select (cmpi .eq div4 (broadcast S32x128 (BitVec.ofNat 32 n)))
      (addi (muli rem4 (broadcast S32x128 32#32)) (broadcast S32x128 (BitVec.ofNat 32 n))) (srcLane n)

/-- The scales of 32 rows, block by block. -/
def scaleRows (sc : FVec F S32x128 .f32) : FVec F S32x80 .f32 :=
  extractStridedSlice S32x80 ![0, 0] (dynamicGather 1 sc (wrapIdx (srcLane 20))) slices_S32x128_o0_0_S32x80

/-! ## The trip's payloads -/

variable (arg1 : Memref sig .tc .vmem S1536x2560 .bf16) (X : BufTy.Contents (Elt F) arg1.view.ty) (k : Fin k0_t1_loop.trips)

/-- The first row of trip `k`, as the kernel computes it, -/
def rowOff : ℕ := BitVec.toNat (Scalar.indexCast (Scalar.addi 0#32 (Scalar.muli (Scf.iv 0#32 1#32 k.val) 32#32)))

/-- is `32 * k`. -/
theorem rowOff_eq : rowOff k = 32 * k.val := by
  have r : k.val < 48 := Nat.lt_of_lt_of_le k.isLt k0_t1_abs.2.1
  have a0 : Affine.IsInt 0#32 (0) := Affine.ofNat _ (by omega)
  have a1 : Affine.IsInt 1#32 (1) := Affine.ofNat _ (by omega)
  have iv : Affine.IsInt _ ((k.val : Int)) := Affine.iv a0 a1 k.val (by omega)
  have a32 : Affine.IsInt 32#32 (32) := Affine.ofNat _ (by omega)
  have m : Affine.IsInt _ (32 * (k.val : Int)) := Affine.muli iv a32 (by omega)
  have s : Affine.IsInt _ (32 * (k.val : Int)) := Affine.addi a0 m (by omega)
  exact Affine.nat_eq (Affine.indexCast s) _ (by omega)

/-- Tile `c`'s offset in trip `k`. -/
def offs (c : Fin 20) : Fin 2 → ℕ := ![rowOff k, 128 * c.val]

theorem offs_inb (c : Fin 20) : ∀ a, offs k c a + S32x128.size a ≤ S1536x2560.size a := by
  have r : k.val < 48 := Nat.lt_of_lt_of_le k.isLt k0_t1_abs.2.1
  have hc := c.isLt
  intro a
  fin_cases a
  · show rowOff k + 32 ≤ 1536
    rw [rowOff_eq]; omega
  · show 128 * c.val + 128 ≤ 2560
    omega

/-- Tile `c` of `x`, as trip `k` loads it. -/
def tiles (c : Fin 20) : FVec F S32x128 .bf16 :=
  shapeCast S32x128 (View.readAt (Elt F) arg1.view (Rect.unit (s := S1536x2560) (offs k c) S32x128.size (offs_inb k c)).toLoadRect X)
    shapeCasts_S32x128_S32x128

/-- Trip `k`'s scales and reciprocals, cast. -/
def scB : FVec F S32x128 .bf16 := truncf .bf16 (scaleV (vmax (tiles arg1 X k))) bitsLt_bf16_f32
def inB : FVec F S32x128 .bf16 := truncf .bf16 (invV (vmax (tiles arg1 X k))) bitsLt_bf16_f32

/-- The pieces trip `k` writes of the codes, -/
def codePieces : List (View.Piece (Elt F) S1536x2560 .fp8e4m3) :=
  (List.finRange 20).reverse.map fun c =>
    ⟨Rect.unit (offs k c) S32x128.size (offs_inb k c), codeTile (tiles arg1 X k c) (inB arg1 X k) (BitVec.ofNat 32 c.val)⟩

/-- of the dequantised values, -/
def xbPieces : List (View.Piece (Elt F) S1536x2560 .bf16) :=
  (List.finRange 20).reverse.map fun c =>
    ⟨Rect.unit (offs k c) S32x128.size (offs_inb k c),
      xbTile (tiles arg1 X k c) (scB arg1 X k) (inB arg1 X k) (BitVec.ofNat 32 c.val)⟩

theorem offs80_inb : ∀ a, (![rowOff k, 0] : Fin 2 → ℕ) a + S32x80.size a ≤ S1536x80.size a := by
  have r : k.val < 48 := Nat.lt_of_lt_of_le k.isLt k0_t1_abs.2.1
  intro a
  fin_cases a
  · show rowOff k + 32 ≤ 1536
    rw [rowOff_eq]; omega
  · show 0 + 80 ≤ 80
    omega

/-- and of the scales. -/
def scalePieces : List (View.Piece (Elt F) S1536x80 .f32) :=
  [⟨Rect.unit (s := S1536x80) ![rowOff k, 0] S32x80.size (offs80_inb k), scaleRows (scaleV (vmax (tiles arg1 X k)))⟩]

end Cert.Kernel.Quant
-- ==== Proof.KTrip.lean ====
/- ONE TRIP OF THE ROW LOOP: the pieces the trip is found to write are the structured ones (Quant.lean); what they
   leave, row by row, is a function of the rows of `x` alone. -/
module

public import proofs.«01_k».proof.Proof.KQuant
public import proofs.«01_k».proof.Proof.Gen.Kernel.Frame
public import Idealize.ShloMosaic.Lib.Pipeline.Value

@[expose] public section

set_option maxRecDepth 16384

noncomputable section

namespace Cert.Kernel.Quant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]

/-! ## What an array holds, block by block -/

/-- An array of 1536 rows and 2560 columns put together from its tiles of 32 rows and 128 columns, -/
def asm {α : Type} (T : Fin 48 → Fin 20 → S32x128.Idx → α) : S1536x2560.Idx → α := fun y =>
  T ⟨(y 0).val / 32, by have h : (y 0).val < 1536 := (y 0).isLt; omega⟩ ⟨(y 1).val / 128, by have h : (y 1).val < 2560 := (y 1).isLt; omega⟩
    (Shape.pair (d := ![32, 128]) ⟨(y 0).val % 32, Nat.mod_lt _ (by decide)⟩ ⟨(y 1).val % 128, Nat.mod_lt _ (by decide)⟩)

/-- and one of 1536 rows and 80 columns from its bands of 32 rows. -/
def asm80 {α : Type} (T : Fin 48 → S32x80.Idx → α) : S1536x80.Idx → α := fun y =>
  T ⟨(y 0).val / 32, by have h : (y 0).val < 1536 := (y 0).isLt; omega⟩
    (Shape.pair (d := ![32, 80]) ⟨(y 0).val % 32, Nat.mod_lt _ (by decide)⟩ (y 1))

/-- Tile `(k, c)` of an array. -/
def tl (x : Vec F S1536x2560 .bf16) (k : Fin 48) (c : Fin 20) : FVec F S32x128 .bf16 := fun j =>
  x (Shape.pair (d := ![1536, 2560]) ⟨32 * k.val + (j 0).val, by have h : (j 0).val < 32 := (j 0).isLt; show _ < 1536; omega⟩
    ⟨128 * c.val + (j 1).val, by have h : (j 1).val < 128 := (j 1).isLt; show _ < 2560; omega⟩)

/-- The blocks' scaled maxima of band `k`, as the tree leaves them, -/
def vOf (x : Vec F S1536x2560 .bf16) (k : Fin 48) : FVec F S32x128 .f32 := vmax (tl x k)

/-- the codes the row loop leaves for `x`, -/
def codesOf (x : Vec F S1536x2560 .bf16) : Vec F S1536x2560 .fp8e4m3 :=
  asm fun k c => codeTile (tl x k c) (truncf .bf16 (invV (vOf x k)) bitsLt_bf16_f32) (BitVec.ofNat 32 c.val)

/-- the scales, -/
def scalesOf (x : Vec F S1536x2560 .bf16) : Vec F S1536x80 .f32 := asm80 fun k => scaleRows (scaleV (vOf x k))

/-- and the dequantised values. -/
def xbOf (x : Vec F S1536x2560 .bf16) : Vec F S1536x2560 .bf16 :=
  asm fun k c => xbTile (tl x k c) (truncf .bf16 (scaleV (vOf x k)) bitsLt_bf16_f32) (truncf .bf16 (invV (vOf x k)) bitsLt_bf16_f32)
    (BitVec.ofNat 32 c.val)

/-- The loop's trips are 48. -/
theorem trips_eq : k0_t1_loop.trips = 48 := by decide

variable (𝒱 : Variants) (c : Dev nD) (bd : Option 𝒱.V) (i : grid0.Coords) (arg1 : Memref sig .tc .vmem S1536x2560 .bf16) (harg1 : arg1.IsWhole) (arg2 : Memref sig .tc .vmem S256x80 .i32) (harg2 : arg2.IsWhole) (arg3 : Memref sig .tc .vmem S256x80 .i32) (harg3 : arg3.IsWhole) (arg4 : Memref sig .tc .vmem S1x256 .bf16) (harg4 : arg4.IsWhole) (arg5 : Memref sig .tc .vmem S1536x256 .bf16) (harg5 : arg5.IsWhole) (arg6 : Memref sig .tc .vmem S1536x2560 .fp8e4m3) (harg6 : arg6.IsWhole) (arg7 : Memref sig .tc .vmem S1536x80 .f32) (harg7 : arg7.IsWhole) (arg8 : Memref sig .tc .vmem S1536x2560 .bf16) (harg8 : arg8.IsWhole) (arg9 : Memref sig .tc .vmem S2x80x256 .i32) (harg9 : arg9.IsWhole) (arg10 : Memref sig .tc .vmem S2560x256 .bf16) (harg10 : arg10.IsWhole)
  (h1 : k0_cond1 i = 1#1) (X : BufTy.Contents (Elt F) arg1.view.ty) (k : Fin k0_t1_loop.trips)

/-- The trip's pieces of the codes, the scales and the dequantised values. -/
theorem tripL_eq : tripL_k0_t1 (F := F) 𝒱 c bd i arg1 harg1 arg2 harg2 arg3 harg3 arg4 harg4 arg5 harg5 arg6 harg6 arg7 harg7 arg8 harg8 arg9 harg9 arg10 harg10 h1 X k
    = (codePieces arg1 X k, scalePieces arg1 X k, xbPieces arg1 X k) := by sl_kernel_rfl

/-! ## What the trips' pieces leave -/

/-- The tile trip `k` loads is the array's. -/
theorem tiles_eq (k' : Fin 48) (hk : k'.val = k.val) : tiles arg1 X k = tl (arg1.view.read (Elt F) X) k' := by
  funext c j
  refine (congrFun (shapeCast_self (s := S32x128) _ _) j).trans ?_
  show arg1.view.read (Elt F) X _ = arg1.view.read (Elt F) X _
  congr 1
  funext a
  fin_cases a
  · apply Fin.ext
    show rowOff k + 1 * (j 0).val = 32 * k'.val + (j 0).val
    rw [rowOff_eq]; omega
  · apply Fin.ext
    show 128 * c.val + 1 * (j 1).val = 128 * c.val + (j 1).val
    omega

/-- An array put together from tiles, read at a place given by its tile and the place in it. -/
theorem asm_apply {α : Type} (T : Fin 48 → Fin 20 → S32x128.Idx → α) (y : S1536x2560.Idx) (k' : Fin 48) (c : Fin 20) (x : S32x128.Idx)
    (e0 : (y 0).val = 32 * k'.val + (x 0).val) (e1 : (y 1).val = 128 * c.val + (x 1).val) : asm T y = T k' c x := by
  have h0 : (x 0).val < 32 := (x 0).isLt
  have h1 : (x 1).val < 128 := (x 1).isLt
  have a : ∀ k₁ c₁ x₁, k₁ = k' → c₁ = c → x₁ = x → T k₁ c₁ x₁ = T k' c x := by rintro _ _ _ rfl rfl rfl; rfl
  refine a _ _ _ (Fin.ext (show (y 0).val / 32 = _ by omega)) (Fin.ext (show (y 1).val / 128 = _ by omega)) ?_
  funext b
  fin_cases b
  · exact Fin.ext (show (y 0).val % 32 = (x 0).val by omega)
  · exact Fin.ext (show (y 1).val % 128 = (x 1).val by omega)

/-- The same of bands. -/
theorem asm80_apply {α : Type} (T : Fin 48 → S32x80.Idx → α) (y : S1536x80.Idx) (k' : Fin 48) (x : S32x80.Idx)
    (e0 : (y 0).val = 32 * k'.val + (x 0).val) (e1 : (y 1).val = (x 1).val) : asm80 T y = T k' x := by
  have h0 : (x 0).val < 32 := (x 0).isLt
  have a : ∀ k₁ x₁, k₁ = k' → x₁ = x → T k₁ x₁ = T k' x := by rintro _ _ rfl rfl; rfl
  refine a _ _ (Fin.ext (show (y 0).val / 32 = _ by omega)) ?_
  funext b
  fin_cases b
  · exact Fin.ext (show (y 0).val % 32 = (x 0).val by omega)
  · exact Fin.ext e1

/-- An array put together from tiles, read where a trip's piece lies. -/
theorem asm_emb {α : Type} (T : Fin 48 → Fin 20 → S32x128.Idx → α) (c : Fin 20) (x : S32x128.Idx) (k' : Fin 48) (hk : k'.val = k.val) :
    asm T ((Rect.unit (s := S1536x2560) (offs k c) S32x128.size (offs_inb k c)).emb x) = T k' c x := by
  refine asm_apply T _ k' c x ?_ ?_
  · show rowOff k + 1 * (x 0).val = _
    rw [rowOff_eq]; omega
  · show 128 * c.val + 1 * (x 1).val = _
    omega

/-- The same of bands. -/
theorem asm80_emb {α : Type} (T : Fin 48 → S32x80.Idx → α) (x : S32x80.Idx) (k' : Fin 48) (hk : k'.val = k.val) :
    asm80 T ((Rect.unit (s := S1536x80) ![rowOff k, 0] S32x80.size (offs80_inb k)).emb x) = T k' x := by
  refine asm80_apply T _ k' x ?_ ?_
  · show rowOff k + 1 * (x 0).val = _
    rw [rowOff_eq]; omega
  · show 0 + 1 * (x 1).val = _
    omega

/-- The pieces written before trip `n` are those of the trips before `n`. -/
theorem pb_mem (n : ℕ) (hn : n ≤ k0_t1_loop.trips) :
    (∀ p, p ∈ (pb_k0_t1 (F := F) 𝒱 c bd i arg1 harg1 arg2 harg2 arg3 harg3 arg4 harg4 arg5 harg5 arg6 harg6 arg7 harg7 arg8 harg8 arg9 harg9 arg10 harg10 h1 X n).1 ↔ ∃ k : Fin k0_t1_loop.trips, k.val < n ∧ p ∈ codePieces arg1 X k)
    ∧ (∀ p, p ∈ (pb_k0_t1 (F := F) 𝒱 c bd i arg1 harg1 arg2 harg2 arg3 harg3 arg4 harg4 arg5 harg5 arg6 harg6 arg7 harg7 arg8 harg8 arg9 harg9 arg10 harg10 h1 X n).2.1 ↔ ∃ k : Fin k0_t1_loop.trips, k.val < n ∧ p ∈ scalePieces arg1 X k)
    ∧ (∀ p, p ∈ (pb_k0_t1 (F := F) 𝒱 c bd i arg1 harg1 arg2 harg2 arg3 harg3 arg4 harg4 arg5 harg5 arg6 harg6 arg7 harg7 arg8 harg8 arg9 harg9 arg10 harg10 h1 X n).2.2 ↔ ∃ k : Fin k0_t1_loop.trips, k.val < n ∧ p ∈ xbPieces arg1 X k) := by
  induction n with
  | zero => simp [pb_k0_t1]
  | succ n ih =>
    obtain ⟨i1, i2, i3⟩ := ih (by omega)
    have key := pb_k0_t1_succ (F := F) 𝒱 c bd i arg1 harg1 arg2 harg2 arg3 harg3 arg4 harg4 arg5 harg5 arg6 harg6 arg7 harg7 arg8 harg8 arg9 harg9 arg10 harg10 h1 X ⟨n, hn⟩
    rw [tripL_eq] at key
    have aux : ∀ (Q : Fin k0_t1_loop.trips → Prop), (Q ⟨n, hn⟩ ∨ ∃ k : Fin k0_t1_loop.trips, k.val < n ∧ Q k)
        ↔ ∃ k : Fin k0_t1_loop.trips, k.val < n + 1 ∧ Q k := by
      intro Q
      constructor
      · rintro (h | ⟨k, hk, h⟩)
        · exact ⟨_, Nat.lt_succ_self n, h⟩
        · exact ⟨k, by omega, h⟩
      · rintro ⟨k, hk, h⟩
        by_cases e : k.val = n
        · left; have : k = ⟨n, hn⟩ := Fin.ext e
          rw [← this]; exact h
        · right; exact ⟨k, by omega, h⟩
    simp only at key
    rw [key]
    refine ⟨fun p => ?_, fun p => ?_, fun p => ?_⟩ <;> rw [List.mem_append]
    · rw [i1 p]; exact aux fun k => p ∈ codePieces arg1 X k
    · rw [i2 p]; exact aux fun k => p ∈ scalePieces arg1 X k
    · rw [i3 p]; exact aux fun k => p ∈ xbPieces arg1 X k

/-- Every place of an array lies in some trip's tile. -/
theorem tile_cover (y : S1536x2560.Idx) : ∃ (k : Fin k0_t1_loop.trips) (c : Fin 20),
    y ∈ (Rect.unit (s := S1536x2560) (offs k c) S32x128.size (offs_inb k c)).set := by
  have h0 : (y 0).val < 1536 := (y 0).isLt
  have h1 : (y 1).val < 2560 := (y 1).isLt
  refine ⟨⟨(y 0).val / 32, by rw [trips_eq]; omega⟩, ⟨(y 1).val / 128, by omega⟩, Rect.mem_set_unit.mpr fun a => ?_⟩
  fin_cases a
  · show rowOff _ ≤ (y 0).val ∧ (y 0).val < rowOff _ + 32
    rw [rowOff_eq]; dsimp only; omega
  · show 128 * ((y 1).val / 128) ≤ (y 1).val ∧ (y 1).val < 128 * ((y 1).val / 128) + 128
    omega

/-- What the loop leaves in the codes' buffer, -/
theorem codes_read (f : BufTy.Contents (Elt F) arg6.view.ty) :
    arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 arg10 harg10 h1 X k0_t1_loop.trips).1)
      = codesOf (arg1.view.read (Elt F) X) := by
  have hm := (pb_mem 𝒱 c bd i arg1 harg1 arg2 harg2 arg3 harg3 arg4 harg4 arg5 harg5 arg6 harg6 arg7 harg7 arg8 harg8 arg9 harg9 arg10 harg10 h1 X k0_t1_loop.trips le_rfl).1
  funext y
  refine View.read_writes_apply_of_pieces _ _ _ _ (fun p hp x => ?_) y ?_
  · obtain ⟨k, -, hk⟩ := (hm p).mp hp
    obtain ⟨c', -, rfl⟩ := List.mem_map.mp hk
    have e : (⟨k.val, Nat.lt_of_lt_of_le k.isLt k0_t1_abs.2.1⟩ : Fin 48).val = k.val := rfl
    refine Eq.trans ?_ (asm_emb k _ c' x _ e).symm
    rw [← tiles_eq arg1 X k _ e]
    unfold vOf; rw [← tiles_eq arg1 X k _ e]
    rfl
  · obtain ⟨k, c', h⟩ := tile_cover y
    exact ⟨_, (hm _).mpr ⟨k, k.isLt, List.mem_map.mpr ⟨c', by simp, rfl⟩⟩, h⟩

/-- in the dequantised values', -/
theorem xb_read (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 h1 X k0_t1_loop.trips).2.2)
      = xbOf (arg1.view.read (Elt F) X) := by
  have hm := (pb_mem 𝒱 c bd i arg1 harg1 arg2 harg2 arg3 harg3 arg4 harg4 arg5 harg5 arg6 harg6 arg7 harg7 arg8 harg8 arg9 harg9 arg10 harg10 h1 X k0_t1_loop.trips le_rfl).2.2
  funext y
  refine View.read_writes_apply_of_pieces _ _ _ _ (fun p hp x => ?_) y ?_
  · obtain ⟨k, -, hk⟩ := (hm p).mp hp
    obtain ⟨c', -, rfl⟩ := List.mem_map.mp hk
    have e : (⟨k.val, Nat.lt_of_lt_of_le k.isLt k0_t1_abs.2.1⟩ : Fin 48).val = k.val := rfl
    refine Eq.trans ?_ (asm_emb k _ c' x _ e).symm
    rw [← tiles_eq arg1 X k _ e]
    unfold vOf; rw [← tiles_eq arg1 X k _ e]
    rfl
  · obtain ⟨k, c', h⟩ := tile_cover y
    exact ⟨_, (hm _).mpr ⟨k, k.isLt, List.mem_map.mpr ⟨c', by simp, rfl⟩⟩, h⟩

/-- and in the scales'. -/
theorem scales_read (f : BufTy.Contents (Elt F) arg7.view.ty) :
    arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 arg10 harg10 h1 X k0_t1_loop.trips).2.1)
      = scalesOf (arg1.view.read (Elt F) X) := by
  have hm := (pb_mem 𝒱 c bd i arg1 harg1 arg2 harg2 arg3 harg3 arg4 harg4 arg5 harg5 arg6 harg6 arg7 harg7 arg8 harg8 arg9 harg9 arg10 harg10 h1 X k0_t1_loop.trips le_rfl).2.1
  funext y
  refine View.read_writes_apply_of_pieces _ _ _ _ (fun p hp x => ?_) y ?_
  · obtain ⟨k, -, hk⟩ := (hm p).mp hp
    obtain rfl := List.mem_singleton.mp hk
    have e : (⟨k.val, Nat.lt_of_lt_of_le k.isLt k0_t1_abs.2.1⟩ : Fin 48).val = k.val := rfl
    refine Eq.trans ?_ (asm80_emb k _ x _ e).symm
    unfold vOf; rw [← tiles_eq arg1 X k _ e]
  · have h0 : (y 0).val < 1536 := (y 0).isLt
    have h1' : (y 1).val < 80 := (y 1).isLt
    let k : Fin k0_t1_loop.trips := ⟨(y 0).val / 32, by rw [trips_eq]; omega⟩
    refine ⟨⟨Rect.unit (s := S1536x80) ![rowOff k, 0] S32x80.size (offs80_inb k), scaleRows (scaleV (vmax (tiles arg1 X k)))⟩,
      (hm _).mpr ⟨k, k.isLt, List.mem_singleton.mpr rfl⟩, ?_⟩
    show y ∈ (Rect.unit (s := S1536x80) ![rowOff k, 0] S32x80.size (offs80_inb k)).set
    refine Rect.mem_set_unit.mpr fun a => ?_
    fin_cases a
    · show rowOff k ≤ (y 0).val ∧ (y 0).val < rowOff k + 32
      rw [rowOff_eq]; dsimp only [k]; omega
    · show 0 ≤ (y 1).val ∧ (y 1).val < 0 + 80
      omega

/-! ## What the loop hands on -/

/-- After the loop the three buffers hold the codes, the scales and the dequantised values of `x`. -/
instance loopExit (E : Set ℕ) (X_arg1 : BufTy.Contents (Elt F) arg1.view.ty) (G_arg6 : BufTy.Contents (Elt F) arg6.view.ty)
    (G_arg7 : BufTy.Contents (Elt F) arg7.view.ty) (G_arg8 : BufTy.Contents (Elt F) arg8.view.ty) :
    LoopExit (loopInv_k0_t1 (F := F) 𝒱 c bd E i arg1 harg1 arg2 harg2 arg3 harg3 arg4 harg4 arg5 harg5 arg6 harg6 arg7 harg7 arg8 harg8 arg9 harg9 arg10 harg10 h1 X_arg1 G_arg6 G_arg7 G_arg8) where
  post _ := iprop((arg1.view.loc (c : Thread nD τ) ↦[arg1.view.set]{fullShare} X_arg1)
    ∗ (arg6.view.loc (c : Thread nD τ) ↦[arg6.view.set]{fullShare} harg6.unread (codesOf (arg1.view.read (Elt F) X_arg1)))
    ∗ (arg7.view.loc (c : Thread nD τ) ↦[arg7.view.set]{fullShare} harg7.unread (scalesOf (arg1.view.read (Elt F) X_arg1)))
    ∗ (arg8.view.loc (c : Thread nD τ) ↦[arg8.view.set]{fullShare} harg8.unread (xbOf (arg1.view.read (Elt F) X_arg1))))
  exit acc := by
    show inv_k0_t1 (F := F) 𝒱 c bd i arg1 harg1 arg2 harg2 arg3 harg3 arg4 harg4 arg5 harg5 arg6 harg6 arg7 harg7 arg8 harg8 arg9 harg9 arg10 harg10 h1 X_arg1 G_arg6 G_arg7 G_arg8 k0_t1_loop.trips acc ⊢ _
    have e6 := harg6.eq_unread (codes_read 𝒱 c bd i arg1 harg1 arg2 harg2 arg3 harg3 arg4 harg4 arg5 harg5 arg6 harg6 arg7 harg7 arg8 harg8 arg9 harg9 arg10 harg10 h1 X_arg1 G_arg6)
    have e7 := harg7.eq_unread (scales_read 𝒱 c bd i arg1 harg1 arg2 harg2 arg3 harg3 arg4 harg4 arg5 harg5 arg6 harg6 arg7 harg7 arg8 harg8 arg9 harg9 arg10 harg10 h1 X_arg1 G_arg7)
    have e8 := harg8.eq_unread (xb_read 𝒱 c bd i arg1 harg1 arg2 harg2 arg3 harg3 arg4 harg4 arg5 harg5 arg6 harg6 arg7 harg7 arg8 harg8 arg9 harg9 arg10 harg10 h1 X_arg1 G_arg8)
    iintro ⟨H1, ⟨%f6, H6, %h6⟩, ⟨%f7, H7, %h7⟩, ⟨%f8, H8, %h8⟩⟩
    rw [e6] at h6
    rw [e7] at h7
    rw [e8] at h8
    subst h6; subst h7; subst h8
    isplitl [H1]; · iexact H1
    isplitl [H6]; · iexact H6
    isplitl [H7]; · iexact H7
    iexact H8

end Cert.Kernel.Quant
-- ==== Proof.KRuns.lean ====
/- WHAT THE RUNS OF THE KERNEL'S BODY SHARE: the branch condition over the grid points, the staging and scratch
   memrefs, and the value one block of the body leaves in the output: the weights unpacked from the two bit planes, the
   product, the scale. -/
module

public import proofs.«01_k».proof.Proof.KTrip
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents: the elaborator's structural look recurses once per coordinate
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Quant

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, k0_cond1, e0]
    word_cmp
   : ∀ t : Fin grid0.N, cond0_0 (grid0.coords t) ↔ t.val % 27 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x80 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x80 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x80 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1536x2560 .bf16 := Memref.whole cc0_scratch0
abbrev scM0_1 : Memref sig .tc .vmem S2x80x256 .i32 := Memref.whole cc0_scratch1
abbrev scM0_2 : Memref sig .tc .vmem S2560x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What one block computes -/

/-- The weight planes: the low halves' and the high halves' codes of each word, one row of 256 outputs per word. -/
def plane (v : ℕ) (x1 x2 : Vec F S256x80 .i32) : IVec S80x256 32 :=
  if v = 0 then
    ori (andi (k0_pay258 (F := F) x1 x2) (broadcast S80x256 65535#32)) (shli (k0_pay259 (F := F) x1 x2) (broadcast S80x256 16#32))
  else k0_pay260 (F := F) x1 x2

/-- One row of a plane, as the kernel loads it back: row `n / 2` of plane `n % 2`. -/
def rowVec (x1 x2 : Vec F S256x80 .i32) (n : Fin 160) : Vec F S1x1x256 .i32 := fun j =>
  plane (F := F) (n.val % 2) x1 x2 (Shape.pair (d := ![80, 256]) ⟨n.val / 2, by have := n.isLt; show _ < 80; omega⟩ (j 2))

/-- The unpacked weights: sixteen rows from each row of a plane. -/
def tOf (x1 x2 : Vec F S256x80 .i32) : Vec F S2560x256 .bf16 := fun y =>
  k0_pay264 (F := F) (rowVec (F := F) x1 x2 ⟨(y 0).val / 16, by have h : (y 0).val < 2560 := (y 0).isLt; omega⟩)
    (Shape.pair (d := ![16, 256]) ⟨(y 0).val % 16, Nat.mod_lt _ (by decide)⟩ (y 1))

/-- The block of the output. -/
def yOf (xb : Vec F S1536x2560 .bf16) (x1 x2 : Vec F S256x80 .i32) (x3 : Vec F S1x256 .bf16) : Vec F S1536x256 .bf16 :=
  k0_pay1 (F := F) (k0_pay476 (F := F) xb (tOf (F := F) x1 x2)) x3

end Cert.Kernel.Run
-- ==== Proof.KWeights.lean ====
/- THE UNPACKED WEIGHTS: what the pieces of the two scratch buffers hold. -/
module

public import proofs.«01_k».proof.Proof.KRuns

@[expose] public section

-- membership in a rectangle of production extents: the elaborator's structural look recurses once per coordinate
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Quant

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The two planes' pieces. -/
def planePieces (u1 u2 : Vec F S256x80 .i32) : List (View.Piece (Elt F) S2x80x256 .i32) :=
  [⟨Rect.unit ![1, 0, 0] S1x80x256.size inb_S2x80x256_S1x80x256_1_0_0, k0_pay262 (k0_pay260 (F := F) u1 u2)⟩,
   ⟨Rect.unit ![0, 0, 0] S1x80x256.size inb_S2x80x256_S1x80x256_0_0_0, k0_pay261 (F := F) u1 u2⟩]

theorem row_inb (n : Fin 160) : ∀ a, (![n.val % 2, n.val / 2, 0] : Fin 3 → ℕ) a + S1x1x256.size a ≤ S2x80x256.size a := by
  have := n.isLt
  intro a
  fin_cases a
  · show n.val % 2 + 1 ≤ 2; omega
  · show n.val / 2 + 1 ≤ 80; omega
  · show 0 + 256 ≤ 256; omega

/-- One row loaded back from the planes. -/
def rowLoad (arg9 : Memref sig .tc .vmem S2x80x256 .i32) (u1 u2 : Vec F S256x80 .i32) (n : Fin 160) : Vec F S1x1x256 .i32 :=
  arg9.view.readCov (planePieces (F := F) u1 u2) (Rect.unit (s := S2x80x256) ![n.val % 2, n.val / 2, 0] S1x1x256.size (row_inb n)).toLoadRect

theorem wt_inb (n : Fin 160) : ∀ a, (![16 * n.val, 0] : Fin 2 → ℕ) a + S16x256.size a ≤ S2560x256.size a := by
  have := n.isLt
  intro a
  fin_cases a
  · show 16 * n.val + 16 ≤ 2560; omega
  · show 0 + 256 ≤ 256; omega

/-- The unpacked weights' pieces, the last one written first. -/
def wPieces (arg9 : Memref sig .tc .vmem S2x80x256 .i32) (u1 u2 : Vec F S256x80 .i32) : List (View.Piece (Elt F) S2560x256 .bf16) :=
  (List.finRange 160).reverse.map fun n =>
    ⟨Rect.unit (s := S2560x256) ![16 * n.val, 0] S16x256.size (wt_inb n), k0_pay264 (F := F) (rowLoad arg9 u1 u2 n)⟩

/-- A row loaded back is the plane's row. -/
theorem rowLoad_eq (arg9 : Memref sig .tc .vmem S2x80x256 .i32) (u1 u2 : Vec F S256x80 .i32) (n : Fin 160) :
    rowLoad arg9 u1 u2 n = rowVec (F := F) u1 u2 n := by
  have hn := n.isLt
  let G : S2x80x256.Idx → Elt F .i32 := fun y => plane (F := F) (y 0).val u1 u2 (Shape.pair (d := ![80, 256]) (y 1) (y 2))
  have key : ∀ y : S2x80x256.Idx, View.read (Elt F) arg9.view (arg9.view.writes (Elt F) arg9.view.junk (planePieces u1 u2)) y = G y := by
    intro y
    have h0 : (y 0).val < 2 := (y 0).isLt
    have h1 : (y 1).val < 80 := (y 1).isLt
    have h2 : (y 2).val < 256 := (y 2).isLt
    refine View.read_writes_apply_of_pieces _ _ G _ (fun p hp x => ?_) y ?_
    · simp only [planePieces, List.mem_cons, List.not_mem_nil, or_false] at hp
      rcases hp with rfl | rfl
      · have hx : (x 0).val < 1 := (x 0).isLt
        show shapeCast S1x80x256 (plane (F := F) 1 u1 u2) shapeCasts_S80x256_S1x80x256 x = _
        refine (shapeCast_apply (s := S80x256) _ shapeCasts_S80x256_S1x80x256 x (Shape.pair (d := ![80, 256]) (x 1) (x 2)) ?_).trans ?_
        · rw [Shape.rowMajor_val_three, Shape.rowMajor_val_two]
          show (x 1).val * 256 + (x 2).val = ((x 0).val * 80 + (x 1).val) * 256 + (x 2).val
          omega
        · have e : (((Rect.unit (s := S2x80x256) ![1, 0, 0] S1x80x256.size inb_S2x80x256_S1x80x256_1_0_0).emb x) 0).val = 1 := by
            show 1 + 1 * (x 0).val = 1; omega
          show _ = plane (F := F) (((Rect.unit (s := S2x80x256) ![1, 0, 0] S1x80x256.size inb_S2x80x256_S1x80x256_1_0_0).emb x) 0).val u1 u2 _
          rw [e]
          congr 1
          funext a
          fin_cases a
          · exact Fin.ext (show (x 1).val = 0 + 1 * (x 1).val by omega)
          · exact Fin.ext (show (x 2).val = 0 + 1 * (x 2).val by omega)
      · have hx : (x 0).val < 1 := (x 0).isLt
        show shapeCast S1x80x256 (plane (F := F) 0 u1 u2) shapeCasts_S80x256_S1x80x256 x = _
        refine (shapeCast_apply (s := S80x256) _ shapeCasts_S80x256_S1x80x256 x (Shape.pair (d := ![80, 256]) (x 1) (x 2)) ?_).trans ?_
        · rw [Shape.rowMajor_val_three, Shape.rowMajor_val_two]
          show (x 1).val * 256 + (x 2).val = ((x 0).val * 80 + (x 1).val) * 256 + (x 2).val
          omega
        · have e : (((Rect.unit (s := S2x80x256) ![0, 0, 0] S1x80x256.size inb_S2x80x256_S1x80x256_0_0_0).emb x) 0).val = 0 := by
            show 0 + 1 * (x 0).val = 0; omega
          show _ = plane (F := F) (((Rect.unit (s := S2x80x256) ![0, 0, 0] S1x80x256.size inb_S2x80x256_S1x80x256_0_0_0).emb x) 0).val u1 u2 _
          rw [e]
          congr 1
          funext a
          fin_cases a
          · exact Fin.ext (show (x 1).val = 0 + 1 * (x 1).val by omega)
          · exact Fin.ext (show (x 2).val = 0 + 1 * (x 2).val by omega)
    · by_cases hy : (y 0).val = 1
      · refine ⟨_, List.mem_cons_self, ?_⟩
        show y ∈ (Rect.unit (s := S2x80x256) ![1, 0, 0] S1x80x256.size inb_S2x80x256_S1x80x256_1_0_0).set
        refine Rect.mem_set_unit.mpr fun a => ?_
        fin_cases a
        · show 1 ≤ (y 0).val ∧ (y 0).val < 1 + 1; omega
        · show 0 ≤ (y 1).val ∧ (y 1).val < 0 + 80; omega
        · show 0 ≤ (y 2).val ∧ (y 2).val < 0 + 256; omega
      · refine ⟨_, List.mem_cons_of_mem _ List.mem_cons_self, ?_⟩
        show y ∈ (Rect.unit (s := S2x80x256) ![0, 0, 0] S1x80x256.size inb_S2x80x256_S1x80x256_0_0_0).set
        refine Rect.mem_set_unit.mpr fun a => ?_
        fin_cases a
        · show 0 ≤ (y 0).val ∧ (y 0).val < 0 + 1; omega
        · show 0 ≤ (y 1).val ∧ (y 1).val < 0 + 80; omega
        · show 0 ≤ (y 2).val ∧ (y 2).val < 0 + 256; omega
  funext j
  have hj0 : (j 0).val < 1 := (j 0).isLt
  have hj1 : (j 1).val < 1 := (j 1).isLt
  refine (key _).trans ?_
  have e : (((Rect.unit (s := S2x80x256) ![n.val % 2, n.val / 2, 0] S1x1x256.size (row_inb n)).toLoadRect.idx j) 0).val = n.val % 2 := by
    show n.val % 2 + 1 * (j 0).val = _; omega
  show plane (F := F) (((Rect.unit (s := S2x80x256) ![n.val % 2, n.val / 2, 0] S1x1x256.size (row_inb n)).toLoadRect.idx j) 0).val u1 u2 _ = plane (F := F) (n.val % 2) u1 u2 _
  rw [e]
  congr 1
  funext a
  fin_cases a
  · exact Fin.ext (show n.val / 2 + 1 * (j 1).val = n.val / 2 by omega)
  · exact Fin.ext (show 0 + 1 * (j 2).val = (j 2).val by omega)

/-- The unpacked weights loaded back whole. -/
theorem wt_read (arg9 : Memref sig .tc .vmem S2x80x256 .i32) (arg10 : Memref sig .tc .vmem S2560x256 .bf16) (u1 u2 : Vec F S256x80 .i32) :
    arg10.view.readCov (wPieces (F := F) arg9 u1 u2) (Rect.unit (s := S2560x256) ![0, 0] S2560x256.size inb_S2560x256_S2560x256_0_0).toLoadRect = tOf u1 u2 := by
  funext j
  have hj0 : (j 0).val < 2560 := (j 0).isLt
  have hj1 : (j 1).val < 256 := (j 1).isLt
  have ej : (Rect.unit (s := S2560x256) ![0, 0] S2560x256.size inb_S2560x256_S2560x256_0_0).toLoadRect.idx j = j := by
    funext a
    fin_cases a
    · exact Fin.ext (show 0 + 1 * (j 0).val = (j 0).val by omega)
    · exact Fin.ext (show 0 + 1 * (j 1).val = (j 1).val by omega)
  show View.read (Elt F) arg10.view _ ((Rect.unit (s := S2560x256) ![0, 0] S2560x256.size inb_S2560x256_S2560x256_0_0).toLoadRect.idx j) = _
  rw [ej]
  refine View.read_writes_apply_of_pieces _ _ (tOf (F := F) u1 u2) _ (fun p hp x => ?_) j ?_
  · obtain ⟨n, -, rfl⟩ := List.mem_map.mp hp
    have hx0 : (x 0).val < 16 := (x 0).isLt
    have hx1 : (x 1).val < 256 := (x 1).isLt
    dsimp only
    rw [rowLoad_eq]
    have a : ∀ (n₁ : Fin 160) (x₁ : S16x256.Idx), n₁ = n → x₁ = x → k0_pay264 (F := F) (rowVec u1 u2 n) x = k0_pay264 (F := F) (rowVec u1 u2 n₁) x₁ := by
      rintro _ _ rfl rfl; rfl
    refine a _ _ (Fin.ext ?_) ?_
    · show (16 * n.val + 1 * (x 0).val) / 16 = n.val
      omega
    · funext b
      fin_cases b
      · exact Fin.ext (show (16 * n.val + 1 * (x 0).val) % 16 = (x 0).val by omega)
      · exact Fin.ext (show 0 + 1 * (x 1).val = (x 1).val by omega)
  · refine ⟨_, List.mem_map.mpr ⟨⟨(j 0).val / 16, by omega⟩, by simp, rfl⟩, ?_⟩
    show j ∈ (Rect.unit (s := S2560x256) ![16 * ((j 0).val / 16), 0] S16x256.size (wt_inb ⟨(j 0).val / 16, by omega⟩)).set
    refine Rect.mem_set_unit.mpr fun a => ?_
    fin_cases a
    · show 16 * ((j 0).val / 16) ≤ (j 0).val ∧ (j 0).val < 16 * ((j 0).val / 16) + 16; omega
    · show 0 ≤ (j 1).val ∧ (j 1).val < 0 + 256; omega

/-- A whole rectangle of a whole buffer reads what the buffer holds. -/
theorem readAt_whole2 {n k : ℕ} {e : EltTy} {M : Memref sig .tc .vmem ⟨2, ![n, k]⟩ e} (hM : M.IsWhole) (x : Vec F ⟨2, ![n, k]⟩ e)
    (inb : ∀ a, (![0, 0] : Fin 2 → ℕ) a + (![n, k] : Fin 2 → ℕ) a ≤ (⟨2, ![n, k]⟩ : Shape).size a) :
    View.readAt (Elt F) M.view (Rect.unit (s := ⟨2, ![n, k]⟩) ![0, 0] ![n, k] inb).toLoadRect (hM.unread x) = x := by
  funext j
  have ej : (Rect.unit (s := ⟨2, ![n, k]⟩) ![0, 0] ![n, k] inb).toLoadRect.idx j = j := by
    funext a
    fin_cases a
    · exact Fin.ext (show 0 + 1 * (j 0).val = (j 0).val by omega)
    · exact Fin.ext (show 0 + 1 * (j 1).val = (j 1).val by omega)
  show View.read (Elt F) M.view _ ((Rect.unit (s := ⟨2, ![n, k]⟩) ![0, 0] ![n, k] inb).toLoadRect.idx j) = _
  rw [ej, hM.read_unread]

/-- One piece over a whole buffer leaves the buffer at the piece. -/
theorem read_writes_whole2 {n k : ℕ} {e : EltTy} (M : Memref sig .tc .vmem ⟨2, ![n, k]⟩ e) (f : BufTy.Contents (Elt F) M.view.ty) (w : Vec F ⟨2, ![n, k]⟩ e)
    (inb : ∀ a, (![0, 0] : Fin 2 → ℕ) a + (![n, k] : Fin 2 → ℕ) a ≤ (⟨2, ![n, k]⟩ : Shape).size a) :
    View.read (Elt F) M.view (M.view.writes (Elt F) f [⟨Rect.unit (s := ⟨2, ![n, k]⟩) ![0, 0] ![n, k] inb, w⟩]) = w := by
  funext y
  have h0 : (y 0).val < n := (y 0).isLt
  have h1 : (y 1).val < k := (y 1).isLt
  refine View.read_writes_apply_of_pieces _ _ w _ (fun p hp x => ?_) y ⟨_, List.mem_cons_self, ?_⟩
  · obtain rfl := List.mem_singleton.mp hp
    show w x = w _
    congr 1
    funext a
    fin_cases a
    · exact Fin.ext (show (x 0).val = 0 + 1 * (x 0).val by omega)
    · exact Fin.ext (show (x 1).val = 0 + 1 * (x 1).val by omega)
  · show y ∈ (Rect.unit (s := ⟨2, ![n, k]⟩) ![0, 0] ![n, k] inb).set
    refine Rect.mem_set_unit.mpr fun a => ?_
    fin_cases a
    · show 0 ≤ (y 0).val ∧ (y 0).val < 0 + n; omega
    · show 0 ≤ (y 1).val ∧ (y 1).val < 0 + k; omega

/-- The output block as the body leaves it, from what its loads read. -/
theorem y_read {arg2 : Memref sig .tc .vmem S256x80 .i32} (harg2 : arg2.IsWhole) {arg3 : Memref sig .tc .vmem S256x80 .i32} (harg3 : arg3.IsWhole)
    {arg4 : Memref sig .tc .vmem S1x256 .bf16} (harg4 : arg4.IsWhole) (arg5 : Memref sig .tc .vmem S1536x256 .bf16)
    {arg8 : Memref sig .tc .vmem S1536x2560 .bf16} (harg8 : arg8.IsWhole) (arg9 : Memref sig .tc .vmem S2x80x256 .i32) (arg10 : Memref sig .tc .vmem S2560x256 .bf16)
    (f4 : BufTy.Contents (Elt F) arg5.view.ty) (xb : Vec F S1536x2560 .bf16) (x1 x2 : Vec F S256x80 .i32) (x3 : Vec F S1x256 .bf16) :
    View.read (Elt F) arg5.view (arg5.view.writes (Elt F) f4
      [⟨Rect.unit (s := S1536x256) ![0, 0] ![1536, 256] inb_S1536x256_S1536x256_0_0,
        k0_pay1 (F := F) (k0_pay476 (F := F)
            (View.readAt (Elt F) arg8.view (Rect.unit (s := S1536x2560) ![0, 0] ![1536, 2560] inb_S1536x2560_S1536x2560_0_0).toLoadRect (harg8.unread xb))
            (arg10.view.readCov (wPieces (F := F) arg9
              (View.readAt (Elt F) arg2.view (Rect.unit (s := S256x80) ![0, 0] ![256, 80] inb_S256x80_S256x80_0_0).toLoadRect (harg2.unread x1))
              (View.readAt (Elt F) arg3.view (Rect.unit (s := S256x80) ![0, 0] ![256, 80] inb_S256x80_S256x80_0_0).toLoadRect (harg3.unread x2)))
              (Rect.unit (s := S2560x256) ![0, 0] S2560x256.size inb_S2560x256_S2560x256_0_0).toLoadRect))
          (View.readAt (Elt F) arg4.view (Rect.unit (s := S1x256) ![0, 0] ![1, 256] inb_S1x256_S1x256_0_0).toLoadRect (harg4.unread x3))⟩])
      = yOf xb x1 x2 x3 := by
  refine (read_writes_whole2 arg5 f4 _ _).trans ?_
  unfold yOf
  refine congrArg₂ (k0_pay1 (F := F)) (congrArg₂ (k0_pay476 (F := F)) (readAt_whole2 harg8 xb _) ((wt_read arg9 arg10 _ _).trans
    (congrArg₂ (tOf (F := F)) (readAt_whole2 harg2 x1 _) (readAt_whole2 harg3 x2 _)))) (readAt_whole2 harg4 x3 _)

end Cert.Kernel.Run
-- ==== Proof.KRunA.lean ====
/- THE BODY AT THE FIRST POINT. -/
module

public import proofs.«01_k».proof.Proof.KWeights

@[expose] public section

-- membership in a rectangle of production extents: the elaborator's structural look recurses once per coordinate
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Quant

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem kernelRun0_A (c : Dev nD) (i : grid0.Coords) (arg1 : Memref sig .tc .vmem S1536x2560 .bf16) (harg1 : arg1.IsWhole) (arg2 : Memref sig .tc .vmem S256x80 .i32) (harg2 : arg2.IsWhole) (arg3 : Memref sig .tc .vmem S256x80 .i32) (harg3 : arg3.IsWhole) (arg4 : Memref sig .tc .vmem S1x256 .bf16) (harg4 : arg4.IsWhole) (arg5 : Memref sig .tc .vmem S1536x256 .bf16) (harg5 : arg5.IsWhole) (arg6 : Memref sig .tc .vmem S1536x2560 .fp8e4m3) (harg6 : arg6.IsWhole) (arg7 : Memref sig .tc .vmem S1536x80 .f32) (harg7 : arg7.IsWhole) (arg8 : Memref sig .tc .vmem S1536x2560 .bf16) (harg8 : arg8.IsWhole) (arg9 : Memref sig .tc .vmem S2x80x256 .i32) (harg9 : arg9.IsWhole) (arg10 : Memref sig .tc .vmem S2560x256 .bf16) (harg10 : arg10.IsWhole) (hc0 : cond0_0 i)
    (x0 : Vec F S1536x2560 .bf16) (x1 : Vec F S256x80 .i32) (x2 : Vec F S256x80 .i32) (x3 : Vec F S1x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yOf (F := F) (xbOf (F := F) x0) x1 x2 x3) ∗ owns (c : Thread nD τ) arg6 fullShare (codesOf (F := F) x0) ∗ owns (c : Thread nD τ) arg7 fullShare (scalesOf (F := F) x0) ∗ owns (c : Thread nD τ) arg8 fullShare (xbOf (F := F) x0) ∗ (∃ d, owns (c : Thread nD τ) arg9 fullShare d) ∗ (∃ d, owns (c : Thread nD τ) arg10 fullShare d)) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8 arg9 harg9 arg10 harg10) K := by
    intro E K
    simp only [cc0_ternary_linear_eq_skeleton]; unfold cc0_ternary_linear_skel
    simp only [k0_part118_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    rw [hf0]
    iapply Hk
    isplitl [HL0]
    · iexists _; isplitr; · ipureintro; exact harg1.read_unread _
      iexact HL0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine Eq.trans (by sl_kernel_rfl) ((y_read harg2 harg3 harg4 arg5 harg8 arg9 arg10 f4 (xbOf (F := F) (View.read (Elt F) arg1.view (harg1.unread x0))) x1 x2 x3).trans ?_)
      rw [hf0]
    isplitl [HL1]
    · iexists _; isplitr; · ipureintro; exact harg6.read_unread _
      iexact HL1
    isplitl [HL2]
    · iexists _; isplitr; · ipureintro; exact harg7.read_unread _
      iexact HL2
    isplitl [HL3]
    · iexists _; isplitr; · ipureintro; exact harg8.read_unread _
      iexact HL3
    isplitl [HS1]
    · iexists _, _; isplitr; swap; · iexact HS1
      ipureintro; rfl
    · iexists _, _; isplitr; swap; · iexact HS2
      ipureintro; rfl

end Cert.Kernel.Run
-- ==== Proof.KRunB.lean ====
/- THE BODY AT A LATER POINT. -/
module

public import proofs.«01_k».proof.Proof.KWeights

@[expose] public section

-- membership in a rectangle of production extents: the elaborator's structural look recurses once per coordinate
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Quant

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem kernelRun0_B (c : Dev nD) (i : grid0.Coords) (arg1 : Memref sig .tc .vmem S1536x2560 .bf16) (harg1 : arg1.IsWhole) (arg2 : Memref sig .tc .vmem S256x80 .i32) (harg2 : arg2.IsWhole) (arg3 : Memref sig .tc .vmem S256x80 .i32) (harg3 : arg3.IsWhole) (arg4 : Memref sig .tc .vmem S1x256 .bf16) (harg4 : arg4.IsWhole) (arg5 : Memref sig .tc .vmem S1536x256 .bf16) (harg5 : arg5.IsWhole) (arg6 : Memref sig .tc .vmem S1536x2560 .fp8e4m3) (harg6 : arg6.IsWhole) (arg7 : Memref sig .tc .vmem S1536x80 .f32) (harg7 : arg7.IsWhole) (arg8 : Memref sig .tc .vmem S1536x2560 .bf16) (harg8 : arg8.IsWhole) (arg9 : Memref sig .tc .vmem S2x80x256 .i32) (harg9 : arg9.IsWhole) (arg10 : Memref sig .tc .vmem S2560x256 .bf16) (harg10 : arg10.IsWhole) (hc0 : ¬ cond0_0 i)
    (x0 : Vec F S1536x2560 .bf16) (x1 : Vec F S256x80 .i32) (x2 : Vec F S256x80 .i32) (x3 : Vec F S1x256 .bf16) (xb : Vec F S1536x2560 .bf16) (d6 : Vec F S1536x2560 .fp8e4m3) (d7 : Vec F S1536x80 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d6 ∗ owns (c : Thread nD τ) arg7 fullShare d7 ∗ owns (c : Thread nD τ) arg8 fullShare xb ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yOf (F := F) xb x1 x2 x3) ∗ owns (c : Thread nD τ) arg6 fullShare d6 ∗ owns (c : Thread nD τ) arg7 fullShare d7 ∗ owns (c : Thread nD τ) arg8 fullShare xb ∗ (∃ d, owns (c : Thread nD τ) arg9 fullShare d) ∗ (∃ d, owns (c : Thread nD τ) arg10 fullShare d)) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8 arg9 harg9 arg10 harg10) K := by
    intro E K
    simp only [cc0_ternary_linear_eq_skeleton]; unfold cc0_ternary_linear_skel
    simp only [k0_part118_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact Eq.trans (by sl_kernel_rfl) (y_read harg2 harg3 harg4 arg5 harg8 arg9 arg10 f4 xb x1 x2 x3)
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _, _; isplitr; swap; · iexact HS1
      ipureintro; rfl
    · iexists _, _; isplitr; swap; · iexact HS2
      ipureintro; rfl

end Cert.Kernel.Run
-- ==== Proof.KFrame.lean ====
/- THE FRAME OF THE KERNEL at any values: the proof data, the body obligation, the run, and the frame claim. -/
module

public import proofs.«01_k».proof.Proof.KRunA
public import proofs.«01_k».proof.Proof.KRunB
public import Idealize.ShloMosaic.Lib.Claim
public import Idealize.ShloMosaic.Lib.Pipeline.TableIdle

@[expose] public section

-- membership in a rectangle of production extents: the elaborator's structural look recurses once per coordinate
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Quant

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The first point. -/
abbrev t00 : Fin cfg0.N := ⟨0, by decide⟩

/-- The whole of the activations, as the region finds them. -/
def X0 (c : Dev nD) : Vec F S1536x2560 .bf16 := iblk m c 0 t00

theorem iblk0_eq (c : Dev nD) (t : Fin cfg0.N) : iblk m c 0 t = X0 m c := rfl

/-- What the kernel's scratch holds after the first point: the dequantised activations. -/
def PhiB (c : Dev nD) : sProp 𝕄 :=
  iprop((owns (c : Thread nD τ) scM0_0 fullShare (xbOf (F := F) (X0 m c)) ∗ (∃ d, owns (c : Thread nD τ) scM0_1 fullShare d) ∗ (∃ d, owns (c : Thread nD τ) scM0_2 fullShare d)) ∗ (∃ r, prngReg c r))

/-- The proof data: each input's buffer at its block, the output's block, the codes and the scales of the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOf (F := F) (xbOf (F := F) (X0 m c)) (iblk m c 1 t) (iblk m c 2 t) (iblk m c 3 t)
    | ⟨5, _⟩ => codesOf (F := F) (X0 m c)
    | ⟨6, _⟩ => scalesOf (F := F) (X0 m c)
  Φ t := if t.val = 0 then Pipeline.ΦA spec0 c else PhiB m c
  q _ := fullShare
  owed _ := 0

/-- The invariant before the first point is the class's, -/
theorem Phi_zero (c : Dev nD) (t : Fin (cfg0.N + 1)) (h : t.val = 0) : (dats (F := F) m 0 c).Φ t = Pipeline.ΦA spec0 c := if_pos h

/-- later the tracked one. -/
theorem Phi_pos (c : Dev nD) (t : Fin (cfg0.N + 1)) (h : ¬ t.val = 0) : (dats (F := F) m 0 c).Φ t = PhiB m c := if_neg h

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yOf (F := F) (xbOf (F := F) (X0 m c)) (iblk m c 1 t) (iblk m c 2 t) (iblk m c 3 t) := by dsimp only [dats]
theorem after0_5 (c : Dev nD) (t : Fin cfg0.N) : (dats m 0 c).after 5 t = codesOf (F := F) (X0 m c) := by dsimp only [dats]
theorem after0_6 (c : Dev nD) (t : Fin cfg0.N) : (dats m 0 c).after 6 t = scalesOf (F := F) (X0 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two results stored at the first point only -/

theorem idle0_5 (t : Fin cfg0.N) : cfg0.idle 5 (grid0.coords t) = !decide (t.val = 0) := by
  have hN : t.val < 27 := lt_of_lt_of_eq t.isLt (show cfg0.N = 27 from N_0)
  show (!(k0_cond1 (grid0.coords t) == 1#1)) = _
  have h := hcond0_0 t
  by_cases h0 : t.val = 0
  · rw [show k0_cond1 (grid0.coords t) = 1#1 from h.mpr (by omega)]; simp [h0]
  · have : ¬ k0_cond1 (grid0.coords t) = 1#1 := fun e => h0 (by have := h.mp e; omega)
    simp [h0, this]
theorem idle0_6 (t : Fin cfg0.N) : cfg0.idle 6 (grid0.coords t) = !decide (t.val = 0) := idle0_5 t

theorem live0_5 (t : Fin cfg0.N) (h0 : t.val = 0) : cfg0.idle 5 (grid0.coords t) = false := by rw [idle0_5]; simp [h0]
theorem live0_6 (t : Fin cfg0.N) (h0 : t.val = 0) : cfg0.idle 6 (grid0.coords t) = false := by rw [idle0_6]; simp [h0]

/-- After the first point the buffer of window 5 holds what the first point stored. -/
theorem fresh0_5 : ∀ n, n ≤ cfg0.N → cfg0.fresh 5 n = (decide (n = 0) || decide (n = 27)) :=
  cfg0.fresh_tab 5 _ (by decide) fun t => by
    have hN : t.val < 27 := lt_of_lt_of_eq t.isLt (show cfg0.N = 27 from N_0)
    have hf := flush0_5 t
    have hi := idle0_5 t
    rw [show cfg0.idle 5 (cfg0.grid.coords t) = !decide (t.val = 0) from hi]
    by_cases h : t.val = 26
    · rw [hf.mpr (by omega)]; simp [h]
    · have : (cfg0.win 5).flush t = false := by
        rw [← Bool.not_eq_true]; exact fun e => h (by have := hf.mp e; omega)
      rw [this]
      by_cases h0 : t.val = 0
      · simp [h0]
      · have h27 : ¬ t.val = 27 := by omega
        simp [h, h0, h27]
theorem fresh0_6 : ∀ n, n ≤ cfg0.N → cfg0.fresh 6 n = (decide (n = 0) || decide (n = 27)) :=
  cfg0.fresh_tab 6 _ (by decide) fun t => by
    have hN : t.val < 27 := lt_of_lt_of_eq t.isLt (show cfg0.N = 27 from N_0)
    have hf := flush0_6 t
    have hi := idle0_6 t
    rw [show cfg0.idle 6 (cfg0.grid.coords t) = !decide (t.val = 0) from hi]
    by_cases h : t.val = 26
    · rw [hf.mpr (by omega)]; simp [h]
    · have : (cfg0.win 6).flush t = false := by
        rw [← Bool.not_eq_true]; exact fun e => h (by have := hf.mp e; omega)
      rw [this]
      by_cases h0 : t.val = 0
      · simp [h0]
      · have h27 : ¬ t.val = 27 := by omega
        simp [h, h0, h27]

theorem before0_5 (c : Dev nD) (t : Fin cfg0.N) (h0 : t.val ≠ 0) (d) : (dats m 0 c).before 5 t d = codesOf (F := F) (X0 m c) := by
  have hN : t.val < 27 := lt_of_lt_of_eq t.isLt (show cfg0.N = 27 from N_0)
  rw [(dats m 0 c).before_out_traj 5 rfl (fun _ _ => rfl) (fun _ _ _ _ => by rw [after0_5, after0_5]) t.val t rfl d,
    fresh0_5 t.val (Nat.le_of_lt t.isLt), after0_5]
  have h27 : ¬ t.val = 27 := by omega
  simp [h0, h27]
theorem before0_6 (c : Dev nD) (t : Fin cfg0.N) (h0 : t.val ≠ 0) (d) : (dats m 0 c).before 6 t d = scalesOf (F := F) (X0 m c) := by
  have hN : t.val < 27 := lt_of_lt_of_eq t.isLt (show cfg0.N = 27 from N_0)
  rw [(dats m 0 c).before_out_traj 6 rfl (fun _ _ => rfl) (fun _ _ _ _ => by rw [after0_6, after0_6]) t.val t rfl d,
    fresh0_6 t.val (Nat.le_of_lt t.isLt), after0_6]
  have h27 : ¬ t.val = 27 := by omega
  simp [h0, h27]

/-- What a later point hands back of the two results: what it found. -/
theorem leaves5 (c : Dev nD) (t : Fin cfg0.N) (h0 : t.val ≠ 0) :
    (owns (c : Thread nD τ) (ms0_5 t) fullShare (codesOf (F := F) (X0 m c)) : sProp 𝕄) ⊢ (dats m 0 c).leavesExact 5 t := by
  have hi : cfg0.idle 5 (cfg0.grid.coords t) = true := by
    show cfg0.idle 5 (grid0.coords t) = true
    rw [idle0_5]; simp [h0]
  by_cases hf : (cfg0.win 5).flush t = true
  · rw [show (dats m 0 c).leavesExact 5 t = owns (c : Thread nD τ) (ms0_5 t) fullShare ((dats m 0 c).after 5 t) from by
      unfold Dat.leavesExact; rw [hi, hf], after0_5]
  · rw [(dats m 0 c).leavesExact_idle 5 t hi (by simpa using hf)]
    simp only [before0_5 m c t h0]
    iintro H
    iexists (codesOf (F := F) (X0 m c))
    iexact H
theorem leaves6 (c : Dev nD) (t : Fin cfg0.N) (h0 : t.val ≠ 0) :
    (owns (c : Thread nD τ) (ms0_6 t) fullShare (scalesOf (F := F) (X0 m c)) : sProp 𝕄) ⊢ (dats m 0 c).leavesExact 6 t := by
  have hi : cfg0.idle 6 (cfg0.grid.coords t) = true := by
    show cfg0.idle 6 (grid0.coords t) = true
    rw [idle0_6]; simp [h0]
  by_cases hf : (cfg0.win 6).flush t = true
  · rw [show (dats m 0 c).leavesExact 6 t = owns (c : Thread nD τ) (ms0_6 t) fullShare ((dats m 0 c).after 6 t) from by
      unfold Dat.leavesExact; rw [hi, hf], after0_6]
  · rw [(dats m 0 c).leavesExact_idle 6 t hi (by simpa using hf)]
    simp only [before0_6 m c t h0]
    iintro H
    iexists (scalesOf (F := F) (X0 m c))
    iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [Phi_pos m c t.succ (by simp)]
  have hN : t.val < 27 := lt_of_lt_of_eq t.isLt (show cfg0.N = 27 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from rfl, after0_4]
  simp only [iblk0_eq]
  by_cases h0 : t.val = 0
  · have hm : t.val % 27 = 0 := by omega
    rw [Phi_zero m c t.castSucc h0, PhiA0_eq]
    rw [show (dats m 0 c).leavesExact 5 t = owns (c : Thread nD τ) (ms0_5 t) fullShare ((dats m 0 c).after 5 t) from by
      unfold Dat.leavesExact; rw [live0_5 t h0], after0_5]
    rw [show (dats m 0 c).leavesExact 6 t = owns (c : Thread nD τ) (ms0_6 t) fullShare ((dats m 0 c).after 6 t) from by
      unfold Dat.leavesExact; rw [live0_6 t h0], after0_6]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ ((hcond0_0 t).mpr hm) (X0 m c) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · unfold PhiB
      isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hm : ¬ t.val % 27 = 0 := by omega
    rw [Phi_pos m c t.castSucc h0]
    simp only [before0_5 m c t h0, before0_6 m c t h0]
    unfold PhiB
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (fun h => hm ((hcond0_0 t).mp h)) (X0 m c) (iblk m c 1 t) (iblk m c 2 t) (iblk m c 3 t) (xbOf (X0 m c)) (codesOf (X0 m c)) (scalesOf (X0 m c))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply leaves5 m c t h0; iexact H5
    iapply leaves6 m c t h0; iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : (Pipeline.ΦA spec0 c : sProp 𝕄) ⊢ (dats (F := F) m 0 c).Φ 0 := by
  rw [show (dats (F := F) m 0 c).Φ 0 = Pipeline.ΦA spec0 c from rfl]

theorem hout (c : Dev nD) : (dats (F := F) m 0 c).Φ (Fin.last cfg0.N) ⊢ (Pipeline.ΦA spec0 c : sProp 𝕄) := by
  rw [Phi_pos m c (Fin.last cfg0.N) (by rw [Fin.val_last, show cfg0.N = 27 from N_0]; decide), PhiA0_eq]
  unfold PhiB
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The launch: every weakly fair execution ends, with the arrays as the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Run
-- ==== Proof.Consts.lean ====
/- THE FLOAT CONSTANTS of the two programs, as numbers. -/
module

public import Idealize.ShloMosaic.Lib.IdealHost

@[expose] public section

noncomputable section

namespace Cert.Consts

open Idealize.ShloMosaic

/-- The single-precision number nearest 1/448. -/
def cR : ℝ := 9586981 / 4294967296

theorem ofBits_c : Ideal.ofBits .f32 0x3B124925#32 = ((cR : ℝ) : EReal) := by
  simp [Ideal.ofBits, Ideal.ieee, -EReal.coe_mul]; norm_num [cR]

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

theorem ofBits_negInf : Ideal.ofBits .f32 0xFF800000#32 = (⊥ : EReal) := by
  simp [Ideal.ofBits, Ideal.ieee, -EReal.coe_mul]

theorem ofBits_448 : Ideal.ofBits .f32 0x43E00000#32 = ((448 : ℝ) : EReal) := by
  simp [Ideal.ofBits, Ideal.ieee, -EReal.coe_mul]; norm_num

theorem ofBits_448_bf16 : Ideal.ofBits .bf16 0x43E0#16 = ((448 : ℝ) : EReal) := by
  simp [Ideal.ofBits, Ideal.ieee, -EReal.coe_mul]; norm_num

theorem ofBits_n448 : Ideal.ofBits .f32 0xC3E00000#32 = ((-448 : ℝ) : EReal) := by
  simp [Ideal.ofBits, Ideal.ieee, -EReal.coe_mul]; norm_num

theorem ofBits_n448_bf16 : Ideal.ofBits .bf16 0xC3E0#16 = ((-448 : ℝ) : EReal) := by
  simp [Ideal.ofBits, Ideal.ieee, -EReal.coe_mul]; norm_num

theorem one_bf16 : Ideal.ofBits .bf16 0x3F80#16 = ((1 : ℝ) : EReal) := by
  simp [Ideal.ofBits, Ideal.ieee, -EReal.coe_mul]; norm_num

theorem neg_one_bf16 : Ideal.ofBits .bf16 0xBF80#16 = ((-1 : ℝ) : EReal) := by
  simp [Ideal.ofBits, Ideal.ieee, -EReal.coe_mul]; norm_num

theorem zero_bf16 : Ideal.ofBits .bf16 0x0000#16 = ((0 : ℝ) : EReal) := by
  simp [Ideal.ofBits, Ideal.ieee, -EReal.coe_mul]

/-- The fields of the pattern whose exponent field is `k`. -/
theorem pow_fields (k : Fin 255) : ((BitVec.ofNat 32 k.val <<< 23).extractLsb' 31 1 == 1#1) = false
      ∧ ((BitVec.ofNat 32 k.val <<< 23).extractLsb' 23 8).toNat = k.val
      ∧ ((BitVec.ofNat 32 k.val <<< 23).extractLsb' 0 23).toNat = 0 := by revert k; decide +kernel

/-- The power of two whose exponent field is `k`. -/
theorem ofBits_pow (k : Fin 255) (hk : 1 ≤ k.val) :
    Ideal.ofBits .f32 (BitVec.ofNat 32 k.val <<< 23) = (((2 : ℝ) ^ ((k.val : ℤ) - 127) : ℝ) : EReal) := by
  obtain ⟨h1, h2, h3⟩ := pow_fields k
  have hlt := k.isLt
  have e : Ideal.ofBits .f32 (BitVec.ofNat 32 k.val <<< 23) = Ideal.ieee 8 23 (BitVec.ofNat 32 k.val <<< 23) := rfl
  rw [e]
  generalize BitVec.ofNat 32 k.val <<< 23 = b at h1 h2 h3 ⊢
  have h1' : (b.extractLsb' (8 + 23) 1 == 1#1) = false := h1
  have n1 : ¬ k.val = 2 ^ 8 - 1 := by omega
  have n2 : ¬ k.val = 0 := by omega
  unfold Ideal.ieee
  dsimp only
  rw [h1', h2, h3, if_neg n1, if_neg n2, EReal.coe_eq_coe_iff]
  have e : ((k.val : ℤ) - (2 ^ (8 - 1) - 1) - (23 : ℕ)) = ((k.val : ℤ) - 127) + (-23) := by norm_num; ring
  rw [e, zpow_add₀ (by norm_num)]
  norm_num
  ring

/-- The least magnitude of the range: 448 times the least normal number, -/
theorem ofBits_lo : Ideal.ofBits .f32 0x04E00000#32 = ((448 * (2 : ℝ) ^ (-126 : ℤ) : ℝ) : EReal) := by
  simp [Ideal.ofBits, Ideal.ieee, -EReal.coe_mul]; norm_num

/-- and the greatest: the largest finite half-width number. -/
theorem ofBits_hi : Ideal.ofBits .f32 0x7F7F0000#32 = ((255 * (2 : ℝ) ^ (120 : ℤ) : ℝ) : EReal) := by
  simp [Ideal.ofBits, Ideal.ieee, -EReal.coe_mul]; norm_num

/-- The exponent field 255 is infinity. -/
theorem ofBits_inf : Ideal.ofBits .f32 (BitVec.ofNat 32 255 <<< 23) = (⊤ : EReal) := by
  have e : (BitVec.ofNat 32 255 <<< 23) = 0x7F800000#32 := by decide
  rw [e]
  simp [Ideal.ofBits, Ideal.ieee, -EReal.coe_mul]

end Cert.Consts
-- ==== Proof.Exponent.lean ====
/- THE EXPONENT: the search by comparisons finds the exponent of the scaled maximum, so the scale is the power of two
   above it and the reciprocal the inverse power. -/
module

public import proofs.«01_k».proof.Proof.Quant
public import proofs.«01_k».proof.Proof.Consts
public import Mathlib.Analysis.SpecialFunctions.Log.Basic

@[expose] public section

set_option maxRecDepth 16384

noncomputable section

namespace Cert.KernelIdeal.Quant

open Idealize.ShloMosaic Idealize.ShloMosaic.TcCoe Idealize.ShloMosaic.Tactic
open Cert.KernelIdeal Cert.KernelIdeal.Gen Cert.Consts

/-- The exponent of the power of two below `v`. -/
def lg (v : ℝ) : ℤ := ⌊Real.log v / Real.log 2⌋

theorem zpow_le_iff_le_lg {v : ℝ} (hv : 0 < v) (k : ℤ) : k ≤ lg v ↔ (2 : ℝ) ^ k ≤ v := by
  have h2 : 0 < Real.log 2 := Real.log_pos (by norm_num)
  rw [lg, Int.le_floor, le_div_iff₀ h2, ← Real.log_zpow, Real.log_le_log_iff (by positivity) hv]

/-- `E` is the exponent field of `v`: zero for zero, else the exponent plus 127, within a normal number's range. -/
def ExpOf (v : ℝ) (E : ℕ) : Prop := (v = 0 ∧ E = 0) ∨ (0 < v ∧ (E : ℤ) = lg v + 127 ∧ 1 ≤ E ∧ E ≤ 252)

theorem ExpOf.le {v : ℝ} {E : ℕ} (h : ExpOf v E) : E ≤ 252 := by
  rcases h with ⟨-, h⟩ | ⟨-, -, -, h⟩ <;> omega

/-- The power with exponent field `k` is no more than `v` iff `k` is no more than `v`'s field. -/
theorem thr_le {v : ℝ} {E : ℕ} (h : ExpOf v E) (k : ℕ) (h1 : 1 ≤ k) (h2 : k ≤ 255) :
    Ideal.ofBits .f32 (BitVec.ofNat 32 k <<< 23) ≤ (v : EReal) ↔ k ≤ E := by
  have hE := h.le
  by_cases h255 : k = 255
  · subst h255
    rw [ofBits_inf]
    simp only [top_le_iff, EReal.coe_ne_top, false_iff]
    omega
  rw [ofBits_pow ⟨k, by omega⟩ h1, EReal.coe_le_coe_iff]
  rcases h with ⟨rfl, rfl⟩ | ⟨hv, he, -, -⟩
  · have : (0 : ℝ) < (2 : ℝ) ^ ((k : ℤ) - 127) := by positivity
    constructor
    · intro h; exact absurd h (not_le.mpr this)
    · intro h; omega
  · show (2 : ℝ) ^ ((k : ℤ) - 127) ≤ v ↔ _
    rw [← zpow_le_iff_le_lg hv]; omega

/-- One step of the search, on numbers. -/
def stepN (E S B : ℕ) : ℕ := if B + S ≤ E then B + S else B

variable {w : FVec Ideal S32x128 .f32} {j : S32x128.Idx} {v : ℝ} {E : ℕ}

theorem step_apply (hw : w j = (v : EReal)) (h : ExpOf v E) (S B : ℕ) (b : IVec S32x128 32)
    (hb : b j = BitVec.ofNat 32 B) (hS : 1 ≤ S) (hB : B + S ≤ 255) :
    step w (BitVec.ofNat 32 S) b j = BitVec.ofNat 32 (stepN E S B) := by
  have e : b j + BitVec.ofNat 32 S = BitVec.ofNat 32 (B + S) := by
    rw [hb]; exact (BitVec.ofNat_add B S).symm
  show Scalar.select (Ideal.cmp .oge (w j) (Ideal.ofBits .f32 (IntOp.shli .vector (b j + BitVec.ofNat 32 S) 23#32)))
    (b j + BitVec.ofNat 32 S) (b j) = _
  rw [e, hb, hw]
  have e2 : IntOp.shli .vector (BitVec.ofNat 32 (B + S)) 23#32 = BitVec.ofNat 32 (B + S) <<< 23 := by rfl
  rw [e2]
  have key := thr_le h (B + S) (by omega) hB
  show Scalar.select (BitVec.ofBool (decide (_ ≤ _))) _ _ = _
  unfold stepN
  by_cases hc : B + S ≤ E
  · rw [if_pos hc, decide_eq_true (key.mpr hc)]; rfl
  · rw [if_neg hc, decide_eq_false (fun q => hc (key.mp q))]; rfl

theorem stepN_le {E S B N : ℕ} (h : B + 2 * S ≤ N) : stepN E S B + S ≤ N := by
  unfold stepN; split <;> omega

/-- The search finds the exponent field. -/
theorem search_apply (hw : w j = (v : EReal)) (h : ExpOf v E) : search w j = BitVec.ofNat 32 E := by
  have e8 := step_apply hw h 128 0 (broadcast S32x128 0#32) rfl (by omega) (by omega)
  have b8 := stepN_le (E := E) (S := 128) (B := 0) (N := 256) (by omega)
  have e7 := step_apply hw h 64 _ _ e8 (by omega) (by omega)
  have b7 := stepN_le (E := E) (S := 64) (N := 256) b8
  have e6 := step_apply hw h 32 _ _ e7 (by omega) (by omega)
  have b6 := stepN_le (E := E) (S := 32) (N := 256) b7
  have e5 := step_apply hw h 16 _ _ e6 (by omega) (by omega)
  have b5 := stepN_le (E := E) (S := 16) (N := 256) b6
  have e4 := step_apply hw h 8 _ _ e5 (by omega) (by omega)
  have b4 := stepN_le (E := E) (S := 8) (N := 256) b5
  have e3 := step_apply hw h 4 _ _ e4 (by omega) (by omega)
  have b3 := stepN_le (E := E) (S := 4) (N := 256) b4
  have e2 := step_apply hw h 2 _ _ e3 (by omega) (by omega)
  have b2 := stepN_le (E := E) (S := 2) (N := 256) b3
  have e1 := step_apply hw h 1 _ _ e2 (by omega) (by omega)
  refine e1.trans ?_
  congr 1
  have hf : ∀ E : Fin 253, stepN E.val 1 (stepN E.val 2 (stepN E.val 4 (stepN E.val 8 (stepN E.val 16 (stepN E.val 32
      (stepN E.val 64 (stepN E.val 128 0))))))) = E.val := by decide +kernel
  exact hf ⟨E, by have := h.le; omega⟩

/-- The exponent field of the scale. -/
def fieldOf (E : ℕ) : ℕ := if E = 0 then 127 else E + 1

theorem exps_apply (hw : w j = (v : EReal)) (h : ExpOf v E) : exps w j = BitVec.ofNat 32 (fieldOf E) := by
  show Scalar.select (IntOp.cmpi .eq (search w j) 0#32) 127#32 (search w j + 1#32) = _
  rw [search_apply hw h]
  have hf : ∀ E : Fin 253, Scalar.select (IntOp.cmpi .eq (BitVec.ofNat 32 E.val) 0#32) 127#32 (BitVec.ofNat 32 E.val + 1#32)
      = BitVec.ofNat 32 (fieldOf E.val) := by decide +kernel
  exact hf ⟨E, by have := h.le; omega⟩

/-- The scale's exponent: zero for a block of zeros, else one more than the scaled maximum's. -/
def expo (v : ℝ) : ℤ := if v = 0 then 0 else lg v + 1

theorem ExpOf.field (h : ExpOf v E) : (fieldOf E : ℤ) - 127 = expo v := by
  unfold fieldOf expo
  rcases h with ⟨h1, h2⟩ | ⟨h1, h2, h3, h4⟩
  · rw [if_pos h1, if_pos h2]; rfl
  · rw [if_neg h1.ne', if_neg (by omega)]; push_cast; omega

/-- The scale, -/
theorem scaleV_apply (hw : w j = (v : EReal)) (h : ExpOf v E) : scaleV w j = (((2 : ℝ) ^ expo v : ℝ) : EReal) := by
  have hE := h.le
  have hm : 1 ≤ fieldOf E ∧ fieldOf E ≤ 253 := by unfold fieldOf; split <;> omega
  show Ideal.ofBits .f32 (IntOp.shli .vector (exps w j) 23#32) = _
  rw [exps_apply hw h]
  have e2 : IntOp.shli .vector (BitVec.ofNat 32 (fieldOf E)) 23#32 = BitVec.ofNat 32 (fieldOf E) <<< 23 := by rfl
  rw [e2, ofBits_pow ⟨fieldOf E, by omega⟩ hm.1, ← h.field]

/-- and its reciprocal. -/
theorem invV_apply (hw : w j = (v : EReal)) (h : ExpOf v E) : invV w j = (((2 : ℝ) ^ (-expo v) : ℝ) : EReal) := by
  have hE := h.le
  have hm : 1 ≤ fieldOf E ∧ fieldOf E ≤ 253 := by unfold fieldOf; split <;> omega
  show Ideal.ofBits .f32 (IntOp.shli .vector (254#32 - exps w j) 23#32) = _
  rw [exps_apply hw h]
  have e1 : ∀ M : Fin 254, 254#32 - BitVec.ofNat 32 M.val = BitVec.ofNat 32 (254 - M.val) := by decide +kernel
  rw [e1 ⟨fieldOf E, by omega⟩]
  have e2 : IntOp.shli .vector (BitVec.ofNat 32 (254 - fieldOf E)) 23#32 = BitVec.ofNat 32 (254 - fieldOf E) <<< 23 := by rfl
  rw [e2, ofBits_pow ⟨254 - fieldOf E, by omega⟩ (by show 1 ≤ 254 - fieldOf E; omega), ← h.field]
  congr 3
  show ((254 - fieldOf E : ℕ) : ℤ) - 127 = _
  omega

/-- A maximum `a` in the range, times the reciprocal of 448, has an exponent field. -/
theorem expOf_exists {a : ℝ} (ha : a = 0 ∨ (448 * (2 : ℝ) ^ (-126 : ℤ) ≤ a ∧ a < (2 : ℝ) ^ (128 : ℤ))) : ∃ E, ExpOf (a * cR) E := by
  rcases ha with rfl | ⟨h1, h2⟩
  · exact ⟨0, .inl ⟨by simp, rfl⟩⟩
  have hc1 : 1 / 448 ≤ cR := by norm_num [cR]
  have hc2 : cR ≤ 1 := by norm_num [cR]
  have hc0 : 0 < cR := by norm_num [cR]
  have ha0 : 0 < a := lt_of_lt_of_le (by positivity) h1
  have hv : 0 < a * cR := mul_pos ha0 hc0
  have l1 : (-126 : ℤ) ≤ lg (a * cR) := by
    rw [zpow_le_iff_le_lg hv]
    calc (2 : ℝ) ^ (-126 : ℤ) = 448 * (2 : ℝ) ^ (-126 : ℤ) * (1 / 448) := by ring
      _ ≤ a * cR := mul_le_mul h1 hc1 (by positivity) ha0.le
  have l2 : lg (a * cR) ≤ 125 := by
    by_contra hcon
    have h3 : (126 : ℤ) ≤ lg (a * cR) := by omega
    rw [zpow_le_iff_le_lg hv] at h3
    have hc3 : cR ≤ (2 : ℝ) ^ (-8 : ℤ) := by norm_num [cR]
    have : a * cR < (2 : ℝ) ^ (128 : ℤ) * (2 : ℝ) ^ (-8 : ℤ) :=
      lt_of_le_of_lt (mul_le_mul_of_nonneg_left hc3 ha0.le) (mul_lt_mul_of_pos_right h2 (by positivity))
    rw [← zpow_add₀ (by norm_num)] at this
    have h4 : (2 : ℝ) ^ ((128 : ℤ) + -8) ≤ (2 : ℝ) ^ (126 : ℤ) := by
      exact zpow_le_zpow_right₀ (by norm_num) (by norm_num)
    linarith
  refine ⟨(lg (a * cR) + 127).toNat, .inr ⟨hv, ?_, ?_, ?_⟩⟩ <;> omega

end Cert.KernelIdeal.Quant
-- ==== Proof.Spec.lean ====
/- WHAT BOTH PROGRAMS COMPUTE, over the extended reals: the blocks' maxima, the scales, the codes, the dequantised
   values, the ternary weights, the product. -/
module

public import proofs.«01_k».proof.Proof.Exponent
public import Idealize.ShloMosaic.Lib.Pointwise

@[expose] public section

noncomputable section

namespace Cert.Spec

open Idealize.ShloMosaic Idealize.ShloMosaic.Pointwise Cert.Consts
open Cert.KernelIdeal.Quant (expo ExpOf expOf_exists)

/-- A matrix of numbers, and one of words. -/
abbrev Mat (n k : ℕ) : Type := (⟨2, ![n, k]⟩ : Shape).Idx → EReal
abbrev Words (n k : ℕ) : Type := (⟨2, ![n, k]⟩ : Shape).Idx → BitVec 32

/-- The largest absolute value of block `b` of row `r`. -/
def blkMax (x : Mat 1536 2560) (r : Fin 1536) (b : Fin 80) : EReal :=
  (Finset.univ : Finset (Fin 32)).fold max ⊥ fun s =>
    max (x (ix2 r ⟨32 * b.val + s.val, by omega⟩)) (-(x (ix2 r ⟨32 * b.val + s.val, by omega⟩)))

/-- The exponent of the block's scale. -/
def expB (x : Mat 1536 2560) (r : Fin 1536) (b : Fin 80) : ℤ := expo ((blkMax x r b).toReal * cR)

/-- The block's scale. -/
def scaleS (x : Mat 1536 2560) (r : Fin 1536) (b : Fin 80) : EReal := (((2 : ℝ) ^ expB x r b : ℝ) : EReal)

/-- The block that column `j` lies in, -/
def blkOf (j : Fin 2560) : Fin 80 := ⟨j.val / 32, by omega⟩

/-- its code, -/
def codeS (x : Mat 1536 2560) (r : Fin 1536) (j : Fin 2560) : EReal :=
  min ((448 : ℝ) : EReal) (max ((-448 : ℝ) : EReal) (x (ix2 r j) * (((2 : ℝ) ^ (-expB x r (blkOf j)) : ℝ) : EReal)))

/-- and its dequantised value. -/
def xbS (x : Mat 1536 2560) (r : Fin 1536) (j : Fin 2560) : EReal := codeS x r j * scaleS x r (blkOf j)

/-- A bit of the packed row `n`. -/
def bitS {N : ℕ} (w : Words N 80) (n : Fin N) (j : Fin 2560) : Bool := (w (ix2 n (blkOf j))).getLsbD (j.val % 32)

/-- The weight that the mask bit `m` and the sign bit `s` give. -/
def tern (m s : Bool) : EReal := if m then (if s then ((-1 : ℝ) : EReal) else ((1 : ℝ) : EReal)) else ((0 : ℝ) : EReal)

/-- The product, times the output's factor. -/
def yS {N : ℕ} (x : Mat 1536 2560) (m s : Words N 80) (a : Mat 1 N) (r : Fin 1536) (n : Fin N) : EReal :=
  (∑ j : Fin 2560, xbS x r j * tern (bitS m n j) (bitS s n j)) * a (ix2 0 n)

/-- A block's maximum is zero or in the range. -/
def InR (x : Mat 1536 2560) (r : Fin 1536) (b : Fin 80) : Prop :=
  ∃ a : ℝ, blkMax x r b = (a : EReal) ∧ (a = 0 ∨ (448 * (2 : ℝ) ^ (-126 : ℤ) ≤ a ∧ a < (2 : ℝ) ^ (128 : ℤ)))

end Cert.Spec
-- ==== Proof.RefQuant.lean ====
/- THE REFERENCE'S QUANTISER AT AN INDEX: its scales and its codes are the ones stated in Spec. -/
module

public import proofs.«01_k».proof.Proof.Gen.ReferenceIdeal.Skeleton
public import proofs.«01_k».proof.Proof.Spec

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Consts Cert.Spec
open Cert.KernelIdeal.Quant (expo lg)

variable (x : FVec Ideal S1536x2560 .bf16) (r : Fin 1536) (b : Fin 80)

/-- The input, cut in blocks. -/
theorem pay2_apply (s : Fin 32) : k0_pay2 (F := Ideal) x (ix3 r b s) = x (ix2 r ⟨32 * b.val + s.val, by omega⟩) := by
  pointwise [k0_pay2]
  congr 2
  exact Fin.ext (by show b.val * 32 + s.val = 32 * b.val + s.val; omega)

theorem max_read (A : FVec Ideal S1536x80x32 .f32) :
    multiReduction .maximumf [2] S1536x80 (absf A) 0xFF800000#32 reduces_S1536x80x32_S1536x80 (.inl rfl) rfl (ix2 r b)
      = (Finset.univ : Finset (Fin 32)).fold max ⊥ fun s => max (A (ix3 r b s)) (-(A (ix3 r b s))) := by
  pointwise
  rw [ofBits_negInf]; rfl

/-- The maximum over a block. -/
theorem max_apply : multiReduction .maximumf [2] S1536x80 (absf (k0_pay2 (F := Ideal) x)) 0xFF800000#32 reduces_S1536x80x32_S1536x80 (.inl rfl) rfl (ix2 r b)
    = blkMax x r b := by
  rw [max_read, blkMax]
  congr 1
  funext s
  rw [pay2_apply]

theorem exp2_coe (k : ℤ) : Ideal.exp2 (((k : ℝ)) : EReal) = (((2 : ℝ) ^ k : ℝ) : EReal) := by
  show ((Real.rpow 2 (k : ℝ) : ℝ) : EReal) = _
  congr 1
  exact Real.rpow_intCast 2 k

/-- The exponent's expression, from the maximum. -/
def expE (M : EReal) : EReal :=
  Scalar.select (Ideal.cmp .oeq M (Ideal.ofBits .f32 0#32)) (Ideal.ofBits .f32 0#32)
      (Ideal.liftRound Int.floor (Ideal.div (Ideal.log (M * Ideal.ofBits .f32 0x3B124925#32)) (Ideal.log (Ideal.ofBits .f32 0x40000000#32)))
        + Ideal.ofBits .f32 0x3F800000#32)

/-- The exponent's operations, from the maxima. -/
def expV (M : FVec Ideal S1536x80 .f32) : FVec Ideal S1536x80 .f32 :=
  select (cmpf .oeq M (broadcast S1536x80 (Scalar.ofBits .f32 0#32 : Ideal .f32))) (broadcast S1536x80 (Scalar.ofBits .f32 0#32 : Ideal .f32))
    (addf (floor (divf (log (mulf M (broadcast S1536x80 (Scalar.ofBits .f32 0x3B124925#32 : Ideal .f32))))
      (log (broadcast S1536x80 (Scalar.ofBits .f32 0x40000000#32 : Ideal .f32))))) (broadcast S1536x80 (Scalar.ofBits .f32 0x3F800000#32 : Ideal .f32)))

theorem pay3_eq : k0_pay3 (F := Ideal) x = expV (multiReduction .maximumf [2] S1536x80 (absf (k0_pay2 (F := Ideal) x)) 0xFF800000#32 reduces_S1536x80x32_S1536x80 (.inl rfl) rfl) := by
  unfold k0_pay3; rfl

theorem expV_apply (M : FVec Ideal S1536x80 .f32) (j : S1536x80.Idx) : expV M j = expE (M j) := rfl

/-- A power of two, at an index, -/
theorem exp2_read (B : FVec Ideal S1536x80 .f32) (j : S1536x80.Idx) (k : ℤ) (e : B j = (((k : ℤ) : ℝ) : EReal)) :
    exp2 B j = (((2 : ℝ) ^ k : ℝ) : EReal) := by
  show Ideal.exp2 (B j) = _
  rw [e, exp2_coe]

theorem pay4_eq : k0_pay4 (F := Ideal) x = exp2 (k0_pay3 (F := Ideal) x) := by unfold k0_pay4; rfl

/-- and the codes' operations. -/
def codeV (A : FVec Ideal S1536x80x32 .f32) (B : FVec Ideal S1536x80 .f32) : FVec Ideal S1536x80x32 .fp8e4m3 :=
  truncf .fp8e4m3 (minimumf (broadcast S1536x80x32 (Scalar.ofBits .f32 0x43E00000#32 : Ideal .f32))
    (maximumf (broadcast S1536x80x32 (Scalar.ofBits .f32 0xC3E00000#32 : Ideal .f32))
     (mulf A (broadcastTo S1536x80x32 (shapeCast S1536x80x1 (exp2 (subf (broadcast S1536x80 (Scalar.ofBits .f32 0#32 : Ideal .f32)) B))
       shapeCasts_S1536x80_S1536x80x1) broadcasts_S1536x80x1_S1536x80x32)))) bitsLt_fp8e4m3_f32

theorem pay5_eq : k0_pay5 (F := Ideal) x = codeV (k0_pay2 (F := Ideal) x) (k0_pay3 (F := Ideal) x) := by unfold k0_pay5; rfl

theorem codeV_apply (A : FVec Ideal S1536x80x32 .f32) (B : FVec Ideal S1536x80 .f32) (s : Fin 32) (k : ℤ)
    (e : B (ix2 r b) = (((k : ℤ) : ℝ) : EReal)) :
    codeV A B (ix3 r b s) = min ((448 : ℝ) : EReal) (max ((-448 : ℝ) : EReal) (A (ix3 r b s) * (((2 : ℝ) ^ (-k) : ℝ) : EReal))) := by
  have h : codeV A B (ix3 r b s) = min (Ideal.ofBits .f32 0x43E00000#32) (max (Ideal.ofBits .f32 0xC3E00000#32)
      (A (ix3 r b s) * Ideal.exp2 (0 - B (ix2 r b)))) := by
    pointwise [codeV]
    rfl
  rw [h, e, ofBits_448, ofBits_n448, zero_sub, ← EReal.coe_neg, ← exp2_coe, Int.cast_neg]

theorem pay6_eq : k0_pay6 (F := Ideal) x = shapeCast S1536x2560 (k0_pay5 (F := Ideal) x) shapeCasts_S1536x80x32_S1536x2560 := by unfold k0_pay6; rfl

theorem flat_apply {φ : FTy} (A : FVec Ideal S1536x80x32 φ) (j : Fin 2560) :
    shapeCast S1536x2560 A shapeCasts_S1536x80x32_S1536x2560 (ix2 r j) = A (ix3 r (blkOf j) ⟨j.val % 32, by omega⟩) := by
  pointwise
  rfl

theorem blkOf_mk (s : Fin 32) : blkOf ⟨32 * b.val + s.val, by omega⟩ = b := Fin.ext (by show (32 * b.val + s.val) / 32 = b.val; omega)

theorem expE_coe {a : ℝ} (h : 0 ≤ a) : expE (a : EReal) = (((expo (a * cR) : ℤ) : ℝ) : EReal) := by
  have hc0 : 0 < cR := by norm_num [cR]
  unfold expE
  rw [ofBits_c, ofBits_two, ofBits_one, ofBits_zero]
  show Scalar.select (BitVec.ofBool (decide ((a : EReal) = ((0 : ℝ) : EReal)))) _ _ = _
  rcases h.eq_or_lt with rfl | h
  · rw [decide_eq_true rfl]
    show ((0 : ℝ) : EReal) = _
    simp [expo]
  · rw [decide_eq_false (by rw [EReal.coe_eq_coe_iff]; exact h.ne')]
    have hv : 0 < a * cR := mul_pos h hc0
    have h2 : (0 : ℝ) < Real.log 2 := Real.log_pos (by norm_num)
    show Ideal.liftRound Int.floor (Ideal.div (Ideal.log ((a : EReal) * (cR : EReal))) (Ideal.log ((2 : ℝ) : EReal))) + ((1 : ℝ) : EReal) = _
    rw [← EReal.coe_mul]
    show Ideal.liftRound Int.floor (Ideal.div (if a * cR ≤ 0 then ⊥ else ((Real.log (a * cR) : ℝ) : EReal)) (if (2 : ℝ) ≤ 0 then ⊥ else ((Real.log 2 : ℝ) : EReal))) + ((1 : ℝ) : EReal) = _
    rw [if_neg (not_le.mpr hv), if_neg (by norm_num), Ideal.div, if_neg (by rw [← EReal.coe_zero, EReal.coe_eq_coe_iff]; exact h2.ne'),
      ← EReal.coe_inv, ← EReal.coe_mul]
    show (((⌊Real.log (a * cR) * (Real.log 2)⁻¹⌋ : ℤ) : ℝ) : EReal) + ((1 : ℝ) : EReal) = _
    rw [← EReal.coe_add, expo, if_neg hv.ne', lg, div_eq_mul_inv]
    push_cast; rfl

variable (hx : ∀ b, InR x r b)
include hx

/-- The exponent. -/
theorem pay3_apply : k0_pay3 (F := Ideal) x (ix2 r b) = (((expB x r b : ℤ) : ℝ) : EReal) := by
  obtain ⟨a, e, h⟩ := hx b
  have ha : 0 ≤ a := by
    rcases h with rfl | ⟨h, -⟩
    · exact le_rfl
    · exact le_trans (by positivity) h
  rw [pay3_eq, expV_apply, max_apply, expB, e, expE_coe ha, EReal.toReal_coe]

/-- The scale. -/
theorem pay4_apply : k0_pay4 (F := Ideal) x (ix2 r b) = scaleS x r b := by
  rw [pay4_eq, exp2_read _ _ _ (pay3_apply x r b hx), scaleS]

/-- The code. -/
theorem pay5_apply (s : Fin 32) : k0_pay5 (F := Ideal) x (ix3 r b s) = codeS x r ⟨32 * b.val + s.val, by omega⟩ := by
  rw [pay5_eq, codeV_apply r b _ _ s _ (pay3_apply x r b hx), pay2_apply, codeS, blkOf_mk]

theorem pay6_apply (j : Fin 2560) : k0_pay6 (F := Ideal) x (ix2 r j) = codeS x r j := by
  rw [pay6_eq, flat_apply, pay5_apply x r (blkOf j) hx]
  congr 1
  exact Fin.ext (by show 32 * (j.val / 32) + j.val % 32 = j.val; omega)

end Cert.ReferenceIdeal.Val
-- ==== Proof.Pre.lean ====
/- THE PRECONDITION, READ AT A BLOCK: its maximum is zero or in the range. -/
module

public import proofs.«01_k».proof.Pre_in_range
public import proofs.«01_k».proof.Proof.RefQuant
public import Idealize.ShloMosaic.Lib.ReduceAll
public import Idealize.ShloMosaic.Lib.KernelVsHost

@[expose] public section

set_option maxRecDepth 16384

noncomputable section

namespace Cert.Pre_in_range

open Idealize.ShloMosaic Idealize.ShloMosaic.Tactic
open Cert.Spec Cert.Consts

/-- The conditions its operations take. -/
theorem facts : Facts where
  bitsLt_bf16_f32 := by decide
  shapeCasts_S12x128x2560_S1536x80x32 := by decide
  reducesTo_S1536x80x32_S1536x80_d2 := by decide
  h_S_ := by decide
  bcast_S_S1536x80 := by decide
  reducesTo_S1536x80_S_d0_1 := by decide

/-- A value that is zero or between the two bounds is a real number. -/
theorem real_of (e : EReal) (h : e = ((0 : ℝ) : EReal)
      ∨ ((448 * (2 : ℝ) ^ (-126 : ℤ) : ℝ) : EReal) ≤ e ∧ e ≤ ((255 * (2 : ℝ) ^ (120 : ℤ) : ℝ) : EReal)) :
    ∃ a : ℝ, e = (a : EReal) ∧ (a = 0 ∨ (448 * (2 : ℝ) ^ (-126 : ℤ) ≤ a ∧ a < (2 : ℝ) ^ (128 : ℤ))) := by
  induction e using EReal.rec with
  | bot =>
    rcases h with h | h
    · exact absurd h (EReal.bot_ne_coe _)
    · exact absurd h.1 (not_le.mpr (EReal.bot_lt_coe _))
  | top =>
    rcases h with h | h
    · exact absurd h (EReal.top_ne_coe _)
    · exact absurd h.2 (not_le.mpr (EReal.coe_lt_top _))
  | coe a =>
    rw [EReal.coe_eq_coe_iff, EReal.coe_le_coe_iff, EReal.coe_le_coe_iff] at h
    exact ⟨a, rfl, h.imp id fun h => ⟨h.1, lt_of_le_of_lt h.2 (by norm_num)⟩⟩

theorem or_one (a b : BitVec 1) (h : a ||| b = 1#1) : a = 1#1 ∨ b = 1#1 := by
  revert a b; decide
theorem and_one (a b : BitVec 1) (h : a &&& b = 1#1) : a = 1#1 ∧ b = 1#1 := by
  revert a b; decide
theorem of_ofBool (p : Prop) [Decidable p] (h : BitVec.ofBool (decide p) = 1#1) : p := by
  by_contra hn
  rw [decide_eq_false hn] at h
  exact absurd h (by decide)

/-- The precondition's test of a maximum. -/
def test (M : EReal) : BitVec 1 :=
  BitVec.ofBool (decide (M = Ideal.ofBits .f32 0x00000000#32))
    ||| (BitVec.ofBool (decide (Ideal.ofBits .f32 0x04E00000#32 ≤ M)) &&& BitVec.ofBool (decide (M ≤ Ideal.ofBits .f32 0x7F7F0000#32)))

theorem real_of_test (M : EReal) (h : test M = 1#1) :
    ∃ a : ℝ, M = (a : EReal) ∧ (a = 0 ∨ (448 * (2 : ℝ) ^ (-126 : ℤ) ≤ a ∧ a < (2 : ℝ) ^ (128 : ℤ))) := by
  unfold test at h
  rw [ofBits_zero, ofBits_lo, ofBits_hi] at h
  refine real_of M ((or_one _ _ h).imp (of_ofBool _) fun h => ?_)
  exact ⟨of_ofBool _ (and_one _ _ h).1, of_ofBool _ (and_one _ _ h).2⟩

/-- The precondition's test of all maxima. -/
def tests [Facts] (V : FVec Ideal S1536x80 .f32) : IVec S1536x80 1 :=
  ori (cmpf .oeq V (broadcastInDim S1536x80 ![] Facts.bcast_S_S1536x80 (constant S_ .f32 0x00000000#32 : FVec Ideal S_ .f32)))
    (andi (cmpf .oge V (broadcastInDim S1536x80 ![] Facts.bcast_S_S1536x80 (constant S_ .f32 0x04E00000#32 : FVec Ideal S_ .f32)))
      (cmpf .ole V (broadcastInDim S1536x80 ![] Facts.bcast_S_S1536x80 (constant S_ .f32 0x7F7F0000#32 : FVec Ideal S_ .f32))))

theorem tests_apply [Facts] (V : FVec Ideal S1536x80 .f32) (i : S1536x80.Idx) : tests V i = test (V i) := rfl

variable (x : FVec Ideal S12x128x2560 .bf16) (hc : S12x128x2560.ShapeCasts (⟨2, ![1536, 2560]⟩ : Shape))

/-- The activations cut in blocks are the matrix cut in blocks. -/
theorem cut_apply (h : S12x128x2560.ShapeCasts S1536x80x32) (r : Fin 1536) (b : Fin 80) (s : Fin 32) :
    shapeCast S1536x80x32 x h (ix3 r b s) = shapeCast ⟨2, ![1536, 2560]⟩ x hc (ix2 r (⟨32 * b.val + s.val, by omega⟩ : Fin 2560)) := by
  have e : shapeCast S1536x80x32 x h = shapeCast S1536x80x32 (shapeCast ⟨2, ![1536, 2560]⟩ x hc) (by decide) :=
    (shapeCast_comp x hc (by decide)).symm
  rw [e]
  pointwise
  congr 2
  exact Fin.ext (by show b.val * 32 + s.val = 32 * b.val + s.val; omega)

/-- The maxima of the blocks, as the precondition takes them. -/
theorem max_block [Facts] (r : Fin 1536) (b : Fin 80) :
    Host.reduce FloatOps.maximumf
        (Host.absf (shapeCast S1536x80x32 (extf .f32 x Facts.bitsLt_bf16_f32 : FVec Ideal S12x128x2560 .f32) Facts.shapeCasts_S12x128x2560_S1536x80x32))
        (constant S_ .f32 0xFF800000#32 : FVec Ideal S_ .f32) Facts.reducesTo_S1536x80x32_S1536x80_d2 Facts.h_S_ (ix2 r b)
      = blkMax (shapeCast ⟨2, ![1536, 2560]⟩ x hc) r b := by
  have e := hostReduce_maximumf_eq_multiReduction
    (Host.absf (shapeCast S1536x80x32 (extf .f32 x Facts.bitsLt_bf16_f32 : FVec Ideal S12x128x2560 .f32) Facts.shapeCasts_S12x128x2560_S1536x80x32))
    0xFF800000#32 Facts.reducesTo_S1536x80x32_S1536x80_d2 Facts.h_S_ (by decide : S1536x80x32.Reduces [2] S1536x80) (.inl rfl) rfl
  refine (congrFun e (ix2 r b)).trans ?_
  refine (Cert.ReferenceIdeal.Val.max_read r b
    (shapeCast S1536x80x32 (extf .f32 x Facts.bitsLt_bf16_f32 : FVec Ideal S12x128x2560 .f32) Facts.shapeCasts_S12x128x2560_S1536x80x32)).trans ?_
  unfold blkMax
  congr 1
  funext s
  rw [← cut_apply x hc Facts.shapeCasts_S12x128x2560_S1536x80x32 r b s]
  rfl

theorem inR_of_fn [Facts] (w1 w2 : IVec S6912x80 32) (a : FVec Ideal S6912 .bf16)
    (h : fn (F := Ideal) x w1 w2 a = fun _ => 1#1) (r : Fin 1536) (b : Fin 80) : InR (shapeCast ⟨2, ![1536, 2560]⟩ x hc) r b := by
  haveI : Subsingleton S_.Idx := ⟨fun a b => funext fun k => k.elim0⟩
  have h0 := congrFun h (Shape.Idx.first Facts.h_S_)
  unfold fn at h0
  have h1 : tests _ (ix2 r b) = 1#1 := Host.reduce_andi_all _ _ _ _ _ h0 (ix2 r b)
  rw [tests_apply] at h1
  beta_reduce at h1
  rw [max_block x hc r b] at h1
  exact real_of_test _ h1

end Cert.Pre_in_range
-- ==== Proof.Lanes.lean ====
/- ONE STAGE OF THE TREE, READ AT A LANE, over the extended reals: a lane permutation reads the lane its index names,
   a choice of words is a choice of values, so a stage on two tiles is the maximum of a value and its partner lane's. -/
module

public import proofs.«01_k».proof.Proof.Quant
public import Idealize.ShloMosaic.Lib.Pointwise
public import Idealize.ShloMosaic.Lib.Bf16Pair

@[expose] public section

set_option maxRecDepth 16384

noncomputable section

namespace Cert.KernelIdeal.Quant

open Idealize.ShloMosaic Idealize.ShloMosaic.TcCoe Idealize.ShloMosaic.Tactic
open Cert.KernelIdeal Cert.KernelIdeal.Gen

/-- Two copies of sixteen rows of lane numbers, each row naming lane `g l` at lane `l`, are thirty-two such rows. -/
theorem wrapIdx_idx2 (w : IVec S16x128 32) (g : Fin 128 → Fin 128) (hw : ∀ q l, w (ix2 q l) = BitVec.ofNat 32 (g l).val)
    (r : Fin 32) (l : Fin 128) : wrapIdx (idx2 w) (ix2 r l) = BitVec.ofNat 32 (g l).val := by
  have h2 : idx2 w (ix2 r l) = BitVec.ofNat 32 (g l).val := by
    pointwise [idx2]
    split
    · exact hw _ _
    · exact hw _ _
  unfold wrapIdx
  rw [shapeCast_comp, shapeCast_self]
  show Scalar.select (IntOp.cmpi .slt (idx2 w (ix2 r l)) 0#32) (idx2 w (ix2 r l) + 128#32) (idx2 w (ix2 r l)) = _
  rw [h2]
  generalize g l = n
  revert n; decide +kernel

/-- A permutation of a tile's lanes reads the lane that its index names. -/
theorem perm_apply (x : FVec Ideal S32x128 .bf16) (w : IVec S16x128 32) (g : Fin 128 → Fin 128)
    (hw : ∀ q l, w (ix2 q l) = BitVec.ofNat 32 (g l).val) (r : Fin 32) (l : Fin 128) : perm x w (ix2 r l) = x (ix2 r (g l)) := by
  show x _ = x _
  congr 1
  have h := wrapIdx_idx2 w g hw r l
  funext b
  fin_cases b
  · rfl
  · apply Fin.ext
    show (wrapIdx (idx2 w) (ix2 r l)).toNat % 128 = (g l).val
    rw [h]
    have := (g l).isLt
    rw [BitVec.toNat_ofNat]; omega

/-- A choice between two tiles, by a mask that depends on the lane alone. -/
theorem pick_apply (m : IVec S16x128 1) (p : Fin 128 → Bool) (hm : ∀ q l, m (ix2 q l) = BitVec.ofBool (p l))
    (a b : FVec Ideal S32x128 .bf16) (r : Fin 32) (l : Fin 128) :
    pick m a b (ix2 r l) = if p l then a (ix2 r l) else b (ix2 r l) := by
  have hj : ∀ (x : FVec Ideal S32x128 .bf16), interleaveRows S32x128 (rowsOfParity 0 S16x128 x bitcasts_S32x128_w16_S16x128_w32)
      (rowsOfParity 1 S16x128 x bitcasts_S32x128_w16_S16x128_w32) bitcasts_S32x128_w16_S16x128_w32 = x :=
    fun x => interleaveRows_rowsOfParity _ x
  have hs : ∀ (j : S16x128.Idx) (u v : S16x128.Idx → EReal), j 1 = l → select m u v j = if p l then u j else v j := by
    intro j u v e
    have hmj : m j = BitVec.ofBool (p l) := by
      have : j = ix2 (j 0) l := by funext d; fin_cases d; · rfl
                                   exact e
      rw [this]; exact hm _ _
    unfold select
    rw [hmj]
    cases p l <;> rfl
  have key : pick m a b (ix2 r l) = if p l then
      interleaveRows S32x128 (rowsOfParity 0 S16x128 a bitcasts_S32x128_w16_S16x128_w32)
        (rowsOfParity 1 S16x128 a bitcasts_S32x128_w16_S16x128_w32) bitcasts_S32x128_w16_S16x128_w32 (ix2 r l)
      else interleaveRows S32x128 (rowsOfParity 0 S16x128 b bitcasts_S32x128_w16_S16x128_w32)
        (rowsOfParity 1 S16x128 b bitcasts_S32x128_w16_S16x128_w32) bitcasts_S32x128_w16_S16x128_w32 (ix2 r l) := by
    unfold pick interleaveRows
    dsimp only
    rw [hs _ _ _ (by rfl), hs _ _ _ (by rfl)]
    split <;> split <;> rfl
  rw [key, hj, hj]

/-- The lane numbers, -/
theorem lane16_apply (q : Fin 16) (l : Fin 128) : lane16 (ix2 q l) = BitVec.ofNat 32 l.val := by
  show BitVec.ofNat 32 _ = _
  congr 1
  show 0 * 128 + l.val = l.val
  omega

/-- the partner lane at distance `2 ^ k`, -/
def flip (k : Fin 5) (l : Fin 128) : Fin 128 := ⟨l.val ^^^ 2 ^ k.val, by revert k l; decide +kernel⟩

/-- and the stage's vectors of them. -/
theorem xor_apply (k : Fin 5) (q : Fin 16) (l : Fin 128) :
    xori lane16 (broadcast S16x128 (BitVec.ofNat 32 (2 ^ k.val))) (ix2 q l) = BitVec.ofNat 32 (flip k l).val := by
  show lane16 (ix2 q l) ^^^ _ = _
  rw [lane16_apply]
  show BitVec.ofNat 32 l.val ^^^ BitVec.ofNat 32 (2 ^ k.val) = _
  revert k l; decide +kernel

/-- The lanes whose bit `k` is clear. -/
theorem low_apply (k : Fin 5) (q : Fin 16) (l : Fin 128) :
    low (BitVec.ofNat 32 (2 ^ k.val)) (ix2 q l) = BitVec.ofBool (!l.val.testBit k.val) := by
  show IntOp.cmpi .eq (lane16 (ix2 q l) &&& BitVec.ofNat 32 (2 ^ k.val)) 0#32 = _
  rw [lane16_apply]
  revert k l; decide +kernel

/-- A stage on one tile: the larger of a value and its partner's. -/
theorem stage1_apply (k : Fin 5) (s : BitVec 32) (hs : s = BitVec.ofNat 32 (2 ^ k.val)) (a : FVec Ideal S32x128 .bf16) (r : Fin 32) (l : Fin 128) :
    stage1 s a (ix2 r l) = max (a (ix2 r l)) (a (ix2 r (flip k l))) := by
  subst hs
  show max (a (ix2 r l)) (perm a _ (ix2 r l)) = _
  rw [perm_apply a _ (flip k) (xor_apply k)]

/-- A stage on two tiles: the same of the tile that takes its lanes from the first where bit `k` is clear, from the
    second where it is set. -/
theorem stage_apply (k : Fin 5) (s : BitVec 32) (hs : s = BitVec.ofNat 32 (2 ^ k.val)) (a b : FVec Ideal S32x128 .bf16) (r : Fin 32) (l : Fin 128) :
    stage s a b (ix2 r l) = if l.val.testBit k.val then max (b (ix2 r l)) (b (ix2 r (flip k l)))
      else max (a (ix2 r l)) (a (ix2 r (flip k l))) := by
  subst hs
  show max (pick _ a b (ix2 r l)) (perm (pick _ b a) _ (ix2 r l)) = _
  rw [perm_apply _ _ (flip k) (xor_apply k), pick_apply _ _ (low_apply k), pick_apply _ _ (low_apply k)]
  have h : (flip k l).val.testBit k.val = !l.val.testBit k.val := by revert k l; decide +kernel
  rw [h]
  cases l.val.testBit k.val <;> simp

end Cert.KernelIdeal.Quant
-- ==== Proof.Tree.lean ====
/- THE TREE OF MAXIMA: at a lane whose place in its group of 32 is `c`, the tree over the twenty tiles leaves the
   largest absolute value of tile `c`'s group. -/
module

public import proofs.«01_k».proof.Proof.Lanes

@[expose] public section

set_option maxRecDepth 16384

noncomputable section

namespace Cert.KernelIdeal.Quant

open Idealize.ShloMosaic Idealize.ShloMosaic.TcCoe Idealize.ShloMosaic.Tactic
open Cert.KernelIdeal Cert.KernelIdeal.Gen

/-- A row of lanes, folded `k` times with its partners at distance 1, 2, 4, …: the largest of 2 ^ k lanes. -/
def mx (t : Fin 128 → EReal) : (k : ℕ) → k ≤ 5 → Fin 128 → EReal
  | 0, _, l => t l
  | k + 1, h, l => max (mx t k (by omega) l) (mx t k (by omega) (flip ⟨k, h⟩ l))

/-- The partner lane, above bit `k - 1`. -/
theorem flip_half (k : Fin 5) (l : Fin 128) : (flip k l).val / 2 ^ k.val
    = if l.val / 2 ^ k.val % 2 = 0 then l.val / 2 ^ k.val + 1 else l.val / 2 ^ k.val - 1 := by
  revert k l; decide +kernel

/-- The lanes that agree above bit `k`: those that agree above bit `k - 1`, and those that agree so with the partner. -/
theorem flip_div (k : Fin 5) (l l' : Fin 128) : l'.val / 2 ^ (k.val + 1) = l.val / 2 ^ (k.val + 1)
    ↔ l'.val / 2 ^ k.val = l.val / 2 ^ k.val ∨ l'.val / 2 ^ k.val = (flip k l).val / 2 ^ k.val := by
  rw [flip_half, pow_succ, ← Nat.div_div_eq_div_mul, ← Nat.div_div_eq_div_mul]
  generalize l'.val / 2 ^ k.val = u
  generalize l.val / 2 ^ k.val = v
  split <;> omega

/-- The fold is the least upper bound of the lanes that agree above bit `k`. -/
theorem mx_le (t : Fin 128 → EReal) (k : ℕ) (h : k ≤ 5) (l : Fin 128) (z : EReal) :
    mx t k h l ≤ z ↔ ∀ l' : Fin 128, l'.val / 2 ^ k = l.val / 2 ^ k → t l' ≤ z := by
  induction k generalizing l with
  | zero =>
    simp only [mx, pow_zero, Nat.div_one]
    exact ⟨fun hz l' e => by rw [Fin.ext e]; exact hz, fun hz => hz l rfl⟩
  | succ k ih =>
    simp only [mx, max_le_iff, ih]
    have key := flip_div ⟨k, h⟩ l
    dsimp only at key
    constructor
    · rintro ⟨a, b⟩ l' e
      rcases (key l').mp e with e | e
      · exact a l' e
      · exact b l' e
    · intro a
      exact ⟨fun l' e => a l' ((key l').mpr (.inl e)), fun l' e => a l' ((key l').mpr (.inr e))⟩

/-- The row `t` holds, at each lane, the fold of the tile that the lane's low `k` bits name among the tiles from
    `i * 2 ^ k` on. -/
def Good (y : ℕ → Fin 128 → EReal) (k : ℕ) (h : k ≤ 5) (i : ℕ) (t : Fin 128 → EReal) : Prop :=
  ∀ l : Fin 128, i * 2 ^ k + l.val % 2 ^ k < 20 → t l = mx (y (i * 2 ^ k + l.val % 2 ^ k)) k h l

theorem flip_mod (k : Fin 5) (l : Fin 128) : (flip k l).val % 2 ^ k.val = l.val % 2 ^ k.val := by
  revert k l; decide +kernel

theorem mod_succ (k : Fin 5) (l : Fin 128) : l.val % 2 ^ (k.val + 1) = (if l.val.testBit k.val then 2 ^ k.val else 0) + l.val % 2 ^ k.val := by
  revert k l; decide +kernel

/-- A stage on two rows. -/
theorem Good.stage {y : ℕ → Fin 128 → EReal} {k : ℕ} (h : k < 5) {i : ℕ} {a b : Fin 128 → EReal}
    (ha : Good y k h.le (2 * i) a) (hb : Good y k h.le (2 * i + 1) b) :
    Good y (k + 1) h i (fun l => if l.val.testBit k then max (b l) (b (flip ⟨k, h⟩ l)) else max (a l) (a (flip ⟨k, h⟩ l))) := by
  intro l hl
  have hm := mod_succ ⟨k, h⟩ l
  have hf := flip_mod ⟨k, h⟩ l
  dsimp only at hm hf
  dsimp only [mx]
  by_cases hb' : l.val.testBit k = true
  · rw [if_pos hb'] at hm ⊢
    have e : i * 2 ^ (k + 1) + l.val % 2 ^ (k + 1) = (2 * i + 1) * 2 ^ k + l.val % 2 ^ k := by rw [hm]; ring
    rw [e] at hl ⊢
    rw [hb l hl, hb (flip ⟨k, h⟩ l) (by rw [hf]; exact hl), hf]
  · rw [if_neg hb'] at hm ⊢
    have e : i * 2 ^ (k + 1) + l.val % 2 ^ (k + 1) = (2 * i) * 2 ^ k + l.val % 2 ^ k := by rw [hm]; ring
    rw [e] at hl ⊢
    rw [ha l hl, ha (flip ⟨k, h⟩ l) (by rw [hf]; exact hl), hf]

/-- A stage on a row left without a partner. -/
theorem Good.stage1 {y : ℕ → Fin 128 → EReal} {k : ℕ} (h : k < 5) {i : ℕ} {a : Fin 128 → EReal}
    (ha : Good y k h.le (2 * i) a) (h20 : 20 ≤ (2 * i + 1) * 2 ^ k) :
    Good y (k + 1) h i (fun l => max (a l) (a (flip ⟨k, h⟩ l))) := by
  intro l hl
  have hm := mod_succ ⟨k, h⟩ l
  have hf := flip_mod ⟨k, h⟩ l
  dsimp only at hm hf
  dsimp only [mx]
  by_cases hb' : l.val.testBit k = true
  · rw [if_pos hb'] at hm
    have e : i * 2 ^ (k + 1) + l.val % 2 ^ (k + 1) = (2 * i + 1) * 2 ^ k + l.val % 2 ^ k := by rw [hm]; ring
    omega
  · rw [if_neg hb'] at hm
    have e : i * 2 ^ (k + 1) + l.val % 2 ^ (k + 1) = (2 * i) * 2 ^ k + l.val % 2 ^ k := by rw [hm]; ring
    rw [e] at hl ⊢
    rw [ha l hl, ha (flip ⟨k, h⟩ l) (by rw [hf]; exact hl), hf]

/-- The absolute values of row `r` of tile `c`. -/
def absRow (x : Fin 20 → FVec Ideal S32x128 .bf16) (r : Fin 32) (c : ℕ) (l : Fin 128) : EReal :=
  if h : c < 20 then absf (x ⟨c, h⟩) (ix2 r l) else 0

variable (x : Fin 20 → FVec Ideal S32x128 .bf16) (r : Fin 32)

theorem good0 (i : Fin 20) : Good (absRow x r) 0 (by omega) i.val (fun l => absf (x i) (ix2 r l)) := by
  intro l hl
  have hi := i.isLt
  simp [mx, absRow, Nat.mod_one]

theorem good1 (i : Fin 10) : Good (absRow x r) 1 (by omega) i.val (fun l => lev1 x i (ix2 r l)) := by
  have h := Good.stage (k := 0) (i := i.val) (by omega) (good0 x r ⟨2 * i.val, by omega⟩) (good0 x r ⟨2 * i.val + 1, by omega⟩)
  intro l hl
  show stage 1#32 (absf (x ⟨2 * i.val, by omega⟩)) (absf (x ⟨2 * i.val + 1, by omega⟩)) (ix2 r l) = _
  rw [stage_apply 0 1#32 (by rfl)]
  exact h l hl

theorem good2 (i : Fin 5) : Good (absRow x r) 2 (by omega) i.val (fun l => lev2 x i (ix2 r l)) := by
  have h := Good.stage (k := 1) (i := i.val) (by omega) (good1 x r ⟨2 * i.val, by omega⟩) (good1 x r ⟨2 * i.val + 1, by omega⟩)
  intro l hl
  show stage 2#32 (lev1 x ⟨2 * i.val, by omega⟩) (lev1 x ⟨2 * i.val + 1, by omega⟩) (ix2 r l) = _
  rw [stage_apply 1 2#32 (by rfl)]
  exact h l hl

theorem good3 (i : Fin 2) : Good (absRow x r) 3 (by omega) i.val (fun l => lev4 x i (ix2 r l)) := by
  have h := Good.stage (k := 2) (i := i.val) (by omega) (good2 x r ⟨2 * i.val, by omega⟩) (good2 x r ⟨2 * i.val + 1, by omega⟩)
  intro l hl
  show stage 4#32 (lev2 x ⟨2 * i.val, by omega⟩) (lev2 x ⟨2 * i.val + 1, by omega⟩) (ix2 r l) = _
  rw [stage_apply 2 4#32 (by rfl)]
  exact h l hl

theorem good3' : Good (absRow x r) 3 (by omega) 2 (fun l => lev4' x (ix2 r l)) := by
  have h := Good.stage1 (k := 2) (i := 2) (by omega) (good2 x r 4) (by decide)
  intro l hl
  show stage1 4#32 (lev2 x 4) (ix2 r l) = _
  rw [stage1_apply 2 4#32 (by rfl)]
  exact h l hl

theorem good4 : Good (absRow x r) 4 (by omega) 0 (fun l => lev8 x (ix2 r l)) := by
  have h := Good.stage (k := 3) (i := 0) (by omega) (good3 x r 0) (good3 x r 1)
  intro l hl
  show stage 8#32 (lev4 x 0) (lev4 x 1) (ix2 r l) = _
  rw [stage_apply 3 8#32 (by rfl)]
  exact h l hl

theorem good4' : Good (absRow x r) 4 (by omega) 1 (fun l => lev8' x (ix2 r l)) := by
  have h := Good.stage1 (k := 3) (i := 1) (by omega) (good3' x r) (by decide)
  intro l hl
  show stage1 8#32 (lev4' x) (ix2 r l) = _
  rw [stage1_apply 3 8#32 (by rfl)]
  exact h l hl

theorem good5 : Good (absRow x r) 5 (by omega) 0 (fun l => lev16 x (ix2 r l)) := by
  have h := Good.stage (k := 4) (i := 0) (by omega) (good4 x r) (good4' x r)
  intro l hl
  show stage 16#32 (lev8 x) (lev8' x) (ix2 r l) = _
  rw [stage_apply 4 16#32 (by rfl)]
  exact h l hl

/-- The largest absolute value of row `r` of tile `c`, over the lanes `32 g` … `32 g + 31`. -/
def gmax (c : Fin 20) (g : Fin 4) : EReal :=
  (Finset.univ : Finset (Fin 32)).fold max ⊥ fun s => absf (x c) (ix2 r ⟨32 * g.val + s.val, by omega⟩)

/-- What the tree leaves at lane `32 g + c`. -/
theorem lev16_apply (c : Fin 20) (g : Fin 4) : lev16 x (ix2 r ⟨32 * g.val + c.val, by omega⟩) = gmax x r c g := by
  have hc := c.isLt
  have h := good5 x r ⟨32 * g.val + c.val, by omega⟩ (by show 0 * 2 ^ 5 + (32 * g.val + c.val) % 2 ^ 5 < 20; omega)
  have e : 0 * 2 ^ 5 + (32 * g.val + c.val) % 2 ^ 5 = c.val := by omega
  dsimp only at h
  rw [e] at h
  rw [h]
  refine le_antisymm ?_ ?_
  · rw [mx_le]
    intro l' hl'
    have h32 : l'.val / 32 = g.val := by
      have : l'.val / 2 ^ 5 = (32 * g.val + c.val) / 2 ^ 5 := hl'
      omega
    have hle := (Finset.fold_max_le (f := fun s : Fin 32 => absf (x c) (ix2 r ⟨32 * g.val + s.val, by omega⟩))
      (b := (⊥ : EReal)) (s := Finset.univ) (gmax x r c g)).mp le_rfl
    have := hle.2 ⟨l'.val % 32, Nat.mod_lt _ (by decide)⟩ (Finset.mem_univ _)
    have el : (⟨32 * g.val + (⟨l'.val % 32, Nat.mod_lt _ (by decide)⟩ : Fin 32).val, by have := l'.isLt; dsimp only; omega⟩ : Fin 128) = l' := by
      apply Fin.ext; dsimp only; omega
    rw [el] at this
    simpa [absRow] using this
  · refine (Finset.fold_max_le _).mpr ⟨bot_le, fun s _ => ?_⟩
    have := (mx_le (absRow x r c.val) 5 (by omega) ⟨32 * g.val + c.val, by omega⟩ _).mp le_rfl
      ⟨32 * g.val + s.val, by omega⟩ (by show (32 * g.val + s.val) / 2 ^ 5 = (32 * g.val + c.val) / 2 ^ 5; omega)
    simpa [absRow] using this

end Cert.KernelIdeal.Quant
-- ==== Proof.KerQuant.lean ====
/- THE KERNEL'S QUANTISER AT AN INDEX: the codes, the scales and the dequantised values that its row loop leaves are the
   ones stated in Spec. -/
module

public import proofs.«01_k».proof.Proof.Trip
public import proofs.«01_k».proof.Proof.Tree
public import proofs.«01_k».proof.Proof.Spec

@[expose] public section

set_option maxRecDepth 16384

noncomputable section

namespace Cert.KernelIdeal.Quant

open Idealize.ShloMosaic Idealize.ShloMosaic.TcCoe Idealize.ShloMosaic.Tactic
open Cert.KernelIdeal Cert.KernelIdeal.Gen Cert.Consts Cert.Spec

/-! ## One tile -/

theorem group_apply (c : Fin 20) (q : Fin 16) (l : Fin 128) :
    addi group16 (broadcast S16x128 (BitVec.ofNat 32 c.val)) (ix2 q l) = BitVec.ofNat 32 (32 * (l.val / 32) + c.val) := by
  show (lane16 (ix2 q l) &&& 4294967264#32) + BitVec.ofNat 32 c.val = _
  rw [lane16_apply]
  revert c l; decide +kernel

theorem spread_apply (x : FVec Ideal S32x128 .bf16) (c : Fin 20) (r : Fin 32) (l : Fin 128) :
    spread x (BitVec.ofNat 32 c.val) (ix2 r l) = x (ix2 r ⟨32 * (l.val / 32) + c.val, by omega⟩) :=
  perm_apply x _ (fun l => ⟨32 * (l.val / 32) + c.val, by omega⟩) (fun q l => group_apply c q l) r l

theorem codeTile_apply (x inv : FVec Ideal S32x128 .bf16) (c : Fin 20) (r : Fin 32) (l : Fin 128) :
    codeTile x inv (BitVec.ofNat 32 c.val) (ix2 r l)
      = min ((448 : ℝ) : EReal) (max ((-448 : ℝ) : EReal) (x (ix2 r l) * inv (ix2 r ⟨32 * (l.val / 32) + c.val, by omega⟩))) := by
  rw [← spread_apply inv c r l, ← ofBits_448_bf16, ← ofBits_n448_bf16]
  unfold codeTile clipTile
  generalize spread inv (BitVec.ofNat 32 c.val) = w
  pointwise

theorem xbTile_apply (x sc inv : FVec Ideal S32x128 .bf16) (c : Fin 20) (r : Fin 32) (l : Fin 128) :
    xbTile x sc inv (BitVec.ofNat 32 c.val) (ix2 r l)
      = codeTile x inv (BitVec.ofNat 32 c.val) (ix2 r l) * sc (ix2 r ⟨32 * (l.val / 32) + c.val, by omega⟩) := by
  rw [← spread_apply sc c r l]
  unfold xbTile
  generalize spread sc (BitVec.ofNat 32 c.val) = w
  generalize codeTile x inv (BitVec.ofNat 32 c.val) = v
  rw [shapeCast_self]
  rfl

/-! ## The scales' lanes -/

theorem lane32_apply (r : Fin 32) (l : Fin 128) : lane32 (ix2 r l) = BitVec.ofNat 32 l.val := by
  show BitVec.ofNat 32 _ = _
  congr 1
  show 0 * 128 + l.val = l.val
  omega

theorem div4_apply (r : Fin 32) (l : Fin 128) : div4 (ix2 r l) = BitVec.ofNat 32 (l.val / 4) := by
  have e := lane32_apply r l
  unfold div4 sgn32
  generalize lane32 = w at *
  show Scalar.select
      (IntOp.cmpi .ne ((IntOp.cmpi .sgt (w (ix2 r l)) 0#32).setWidth 32 - (IntOp.cmpi .slt (w (ix2 r l)) 0#32).setWidth 32) sgn4
        &&& IntOp.cmpi .ne (IntOp.remsi .vector (w (ix2 r l)) 4#32) 0#32)
      (IntOp.divsi .vector (w (ix2 r l)) 4#32 - 1#32) (IntOp.divsi .vector (w (ix2 r l)) 4#32) = _
  rw [e]
  unfold sgn4
  clear e
  revert l; decide +kernel

theorem rem4_apply (r : Fin 32) (l : Fin 128) : rem4 (ix2 r l) = BitVec.ofNat 32 (l.val % 4) := by
  have e := lane32_apply r l
  unfold rem4 rem4'
  generalize lane32 = w at *
  show Scalar.select
      ((IntOp.cmpi .slt (IntOp.remsi .vector (w (ix2 r l)) four) 0#32 ^^^ Scalar.cmpi .slt four 0#32)
        &&& IntOp.cmpi .ne (IntOp.remsi .vector (w (ix2 r l)) four) 0#32)
      (IntOp.remsi .vector (w (ix2 r l)) four + four) (IntOp.remsi .vector (w (ix2 r l)) four) = _
  rw [e]
  unfold four
  clear e
  revert l; decide +kernel

theorem srcLane_apply (n : ℕ) (hn : n ≤ 20) (r : Fin 32) (l : Fin 128) :
    srcLane n (ix2 r l) = BitVec.ofNat 32 (if l.val / 4 < n then 32 * (l.val % 4) + l.val / 4 else 0) := by
  induction n with
  | zero => rfl
  | succ n ih =>
    have e : srcLane (n + 1) (ix2 r l) = Scalar.select (IntOp.cmpi .eq (div4 (ix2 r l)) (BitVec.ofNat 32 n))
        (rem4 (ix2 r l) * 32#32 + BitVec.ofNat 32 n) (srcLane n (ix2 r l)) := rfl
    rw [e, ih (by omega), div4_apply, rem4_apply]
    have h : ∀ (n : Fin 20) (l : Fin 128), Scalar.select (IntOp.cmpi .eq (BitVec.ofNat 32 (l.val / 4)) (BitVec.ofNat 32 n.val))
        (BitVec.ofNat 32 (l.val % 4) * 32#32 + BitVec.ofNat 32 n.val) (BitVec.ofNat 32 (if l.val / 4 < n.val then 32 * (l.val % 4) + l.val / 4 else 0))
        = BitVec.ofNat 32 (if l.val / 4 < n.val + 1 then 32 * (l.val % 4) + l.val / 4 else 0) := by decide +kernel
    exact h ⟨n, by omega⟩ l

/-- The lane that holds block `b`'s scale. -/
def laneOf (b : Fin 80) : Fin 128 := ⟨32 * (b.val % 4) + b.val / 4, by omega⟩

theorem wrap_apply (r : Fin 32) (b : Fin 80) : wrapIdx (srcLane 20) (ix2 r ⟨b.val, by omega⟩) = BitVec.ofNat 32 (laneOf b).val := by
  have h := srcLane_apply 20 le_rfl r ⟨b.val, by omega⟩
  generalize srcLane 20 = w at *
  unfold wrapIdx
  rw [shapeCast_comp, shapeCast_self]
  show Scalar.select (IntOp.cmpi .slt (w (ix2 r ⟨b.val, by omega⟩)) 0#32) (w (ix2 r ⟨b.val, by omega⟩) + 128#32) (w (ix2 r ⟨b.val, by omega⟩)) = _
  rw [h]
  clear h
  revert b; decide +kernel

theorem scaleRows_apply (sc : FVec Ideal S32x128 .f32) (r : Fin 32) (b : Fin 80) : scaleRows sc (ix2 r b) = sc (ix2 r (laneOf b)) := by
  have h := wrap_apply r b
  unfold scaleRows
  generalize wrapIdx (srcLane 20) = w at *
  have e : extractStridedSlice S32x80 ![0, 0] (dynamicGather 1 sc w) slices_S32x128_o0_0_S32x80 (ix2 r b) = dynamicGather 1 sc w (ix2 r ⟨b.val, by omega⟩) := by
    pointwise
  rw [e]
  show sc _ = sc _
  congr 1
  funext a
  fin_cases a
  · rfl
  · apply Fin.ext
    show (w (ix2 r ⟨b.val, by omega⟩)).toNat % 128 = (laneOf b).val
    rw [h, BitVec.toNat_ofNat]
    have := (laneOf b).isLt
    omega

/-! ## The whole arrays -/

theorem tl_apply (x : FVec Ideal S1536x2560 .bf16) (k : Fin 48) (c : Fin 20) (r : Fin 32) (l : Fin 128) :
    tl (F := Ideal) x k c (ix2 r l) = x (ix2 ⟨32 * k.val + r.val, by omega⟩ ⟨128 * c.val + l.val, by omega⟩) := by
  show x _ = x _
  congr 1
  funext a
  fin_cases a <;> rfl

variable (x : FVec Ideal S1536x2560 .bf16)

theorem vOf_apply (k : Fin 48) (c : Fin 20) (g : Fin 4) (r : Fin 32) :
    vOf (F := Ideal) x k (ix2 r ⟨32 * g.val + c.val, by omega⟩)
      = blkMax x ⟨32 * k.val + r.val, by omega⟩ ⟨4 * c.val + g.val, by omega⟩ * ((cR : ℝ) : EReal) := by
  have e : vOf (F := Ideal) x k (ix2 r ⟨32 * g.val + c.val, by omega⟩)
      = lev16 (tl (F := Ideal) x k) (ix2 r ⟨32 * g.val + c.val, by omega⟩) * Ideal.ofBits .f32 0x3B124925#32 := by
    unfold vOf vmax
    generalize lev16 (tl (F := Ideal) x k) = w
    rfl
  rw [e, lev16_apply, ofBits_c, gmax, blkMax]
  congr 2
  funext s
  show max (tl (F := Ideal) x k c (ix2 r ⟨32 * g.val + s.val, _⟩)) (-(tl (F := Ideal) x k c (ix2 r ⟨32 * g.val + s.val, _⟩))) = _
  rw [tl_apply]
  have ej : (⟨128 * c.val + (32 * g.val + s.val), by omega⟩ : Fin 2560) = ⟨32 * (4 * c.val + g.val) + s.val, by omega⟩ := Fin.ext (by show 128 * c.val + (32 * g.val + s.val) = 32 * (4 * c.val + g.val) + s.val; omega)
  rw [ej]

variable (hx : ∀ r b, InR x r b)
include hx

theorem pow_apply (k : Fin 48) (c : Fin 20) (g : Fin 4) (r : Fin 32) :
    scaleV (vOf (F := Ideal) x k) (ix2 r ⟨32 * g.val + c.val, by omega⟩)
        = (((2 : ℝ) ^ expB x ⟨32 * k.val + r.val, by omega⟩ ⟨4 * c.val + g.val, by omega⟩ : ℝ) : EReal)
    ∧ invV (vOf (F := Ideal) x k) (ix2 r ⟨32 * g.val + c.val, by omega⟩)
        = (((2 : ℝ) ^ (-expB x ⟨32 * k.val + r.val, by omega⟩ ⟨4 * c.val + g.val, by omega⟩) : ℝ) : EReal) := by
  obtain ⟨a, e, h⟩ := hx ⟨32 * k.val + r.val, by omega⟩ ⟨4 * c.val + g.val, by omega⟩
  have hv := vOf_apply x k c g r
  rw [e, ← EReal.coe_mul] at hv
  obtain ⟨E, hE⟩ := expOf_exists h
  rw [expB, e, EReal.toReal_coe]
  exact ⟨scaleV_apply hv hE, invV_apply hv hE⟩

/-- The place of a row and a column in the bands and the tiles. -/
theorem col_split (j : Fin 2560) : ∃ (c : Fin 20) (l : Fin 128) (g : Fin 4), j.val = 128 * c.val + l.val ∧ l.val / 32 = g.val
    ∧ blkOf j = ⟨4 * c.val + g.val, by omega⟩ :=
  ⟨⟨j.val / 128, by omega⟩, ⟨j.val % 128, by omega⟩, ⟨j.val % 128 / 32, by omega⟩, by show j.val = 128 * (j.val / 128) + j.val % 128; omega, rfl,
    Fin.ext (by show j.val / 32 = 4 * (j.val / 128) + j.val % 128 / 32; omega)⟩

theorem row_split (R : Fin 1536) : ∃ (k : Fin 48) (r : Fin 32), R = ⟨32 * k.val + r.val, by omega⟩ :=
  ⟨⟨R.val / 32, by omega⟩, ⟨R.val % 32, by omega⟩, Fin.ext (by show R.val = 32 * (R.val / 32) + R.val % 32; omega)⟩

theorem code_tile (k : Fin 48) (c : Fin 20) (r : Fin 32) (l : Fin 128) :
    codeTile (tl (F := Ideal) x k c) (truncf .bf16 (invV (vOf (F := Ideal) x k)) bitsLt_bf16_f32) (BitVec.ofNat 32 c.val) (ix2 r l)
      = codeS x ⟨32 * k.val + r.val, by omega⟩ ⟨128 * c.val + l.val, by omega⟩ := by
  have h := (pow_apply x hx k c ⟨l.val / 32, by omega⟩ r).2
  rw [codeTile_apply, tl_apply, codeS]
  generalize invV (vOf (F := Ideal) x k) = w at *
  have e : truncf .bf16 w bitsLt_bf16_f32 (ix2 r ⟨32 * (l.val / 32) + c.val, by omega⟩) = w (ix2 r ⟨32 * (l.val / 32) + c.val, by omega⟩) := rfl
  rw [e, h]
  have eb : blkOf ⟨128 * c.val + l.val, by omega⟩ = (⟨4 * c.val + l.val / 32, by omega⟩ : Fin 80) := Fin.ext (by show (128 * c.val + l.val) / 32 = 4 * c.val + l.val / 32; omega)
  rw [eb]

theorem xb_tile (k : Fin 48) (c : Fin 20) (r : Fin 32) (l : Fin 128) :
    xbTile (tl (F := Ideal) x k c) (truncf .bf16 (scaleV (vOf (F := Ideal) x k)) bitsLt_bf16_f32)
        (truncf .bf16 (invV (vOf (F := Ideal) x k)) bitsLt_bf16_f32) (BitVec.ofNat 32 c.val) (ix2 r l)
      = xbS x ⟨32 * k.val + r.val, by omega⟩ ⟨128 * c.val + l.val, by omega⟩ := by
  have h := (pow_apply x hx k c ⟨l.val / 32, by omega⟩ r).1
  rw [xbTile_apply, code_tile x hx, xbS, scaleS]
  generalize scaleV (vOf (F := Ideal) x k) = w at *
  have e : truncf .bf16 w bitsLt_bf16_f32 (ix2 r ⟨32 * (l.val / 32) + c.val, by omega⟩) = w (ix2 r ⟨32 * (l.val / 32) + c.val, by omega⟩) := rfl
  rw [e, h]
  have eb : blkOf ⟨128 * c.val + l.val, by omega⟩ = (⟨4 * c.val + l.val / 32, by omega⟩ : Fin 80) := Fin.ext (by show (128 * c.val + l.val) / 32 = 4 * c.val + l.val / 32; omega)
  rw [eb]

/-- The codes, -/
theorem codesOf_apply (R : Fin 1536) (j : Fin 2560) : codesOf (F := Ideal) x (ix2 R j) = codeS x R j := by
  have h := code_tile x hx ⟨R.val / 32, by omega⟩ ⟨j.val / 128, by omega⟩ ⟨R.val % 32, by omega⟩ ⟨j.val % 128, by omega⟩
  have eR : (⟨32 * (R.val / 32) + R.val % 32, by omega⟩ : Fin 1536) = R := Fin.ext (by show 32 * (R.val / 32) + R.val % 32 = R.val; omega)
  have ej : (⟨128 * (j.val / 128) + j.val % 128, by omega⟩ : Fin 2560) = j := Fin.ext (by show 128 * (j.val / 128) + j.val % 128 = j.val; omega)
  rw [eR, ej] at h
  rw [codesOf, asm_apply _ (ix2 R j) ⟨R.val / 32, by omega⟩ ⟨j.val / 128, by omega⟩ (ix2 ⟨R.val % 32, by omega⟩ ⟨j.val % 128, by omega⟩)
    (by show R.val = 32 * (R.val / 32) + R.val % 32; omega) (by show j.val = 128 * (j.val / 128) + j.val % 128; omega)]
  exact h

/-- the dequantised values, -/
theorem xbOf_apply (R : Fin 1536) (j : Fin 2560) : xbOf (F := Ideal) x (ix2 R j) = xbS x R j := by
  have h := xb_tile x hx ⟨R.val / 32, by omega⟩ ⟨j.val / 128, by omega⟩ ⟨R.val % 32, by omega⟩ ⟨j.val % 128, by omega⟩
  have eR : (⟨32 * (R.val / 32) + R.val % 32, by omega⟩ : Fin 1536) = R := Fin.ext (by show 32 * (R.val / 32) + R.val % 32 = R.val; omega)
  have ej : (⟨128 * (j.val / 128) + j.val % 128, by omega⟩ : Fin 2560) = j := Fin.ext (by show 128 * (j.val / 128) + j.val % 128 = j.val; omega)
  rw [eR, ej] at h
  rw [xbOf, asm_apply _ (ix2 R j) ⟨R.val / 32, by omega⟩ ⟨j.val / 128, by omega⟩ (ix2 ⟨R.val % 32, by omega⟩ ⟨j.val % 128, by omega⟩)
    (by show R.val = 32 * (R.val / 32) + R.val % 32; omega) (by show j.val = 128 * (j.val / 128) + j.val % 128; omega)]
  exact h

/-- and the scales. -/
theorem scalesOf_apply (R : Fin 1536) (b : Fin 80) : scalesOf (F := Ideal) x (ix2 R b) = scaleS x R b := by
  have h := (pow_apply x hx ⟨R.val / 32, by omega⟩ ⟨b.val / 4, by omega⟩ ⟨b.val % 4, by omega⟩ ⟨R.val % 32, by omega⟩).1
  have eR : (⟨32 * (R.val / 32) + R.val % 32, by omega⟩ : Fin 1536) = R := Fin.ext (by show 32 * (R.val / 32) + R.val % 32 = R.val; omega)
  have eb : (⟨4 * (b.val / 4) + b.val % 4, by omega⟩ : Fin 80) = b := Fin.ext (by show 4 * (b.val / 4) + b.val % 4 = b.val; omega)
  rw [eR, eb] at h
  rw [scalesOf, asm80_apply _ (ix2 R b) ⟨R.val / 32, by omega⟩ (ix2 ⟨R.val % 32, by omega⟩ b)
    (by show R.val = 32 * (R.val / 32) + R.val % 32; omega) rfl, scaleRows_apply, scaleS]
  exact h

end Cert.KernelIdeal.Quant
-- ==== Proof.Word.lean ====
/- ONE WORD OF WEIGHTS: the sixteen-bit pattern that the unpacking makes of one mask bit and one sign bit. -/
module

public import proofs.«01_k».proof.Proof.Consts

@[expose] public section

set_option maxRecDepth 16384

noncomputable section

namespace Cert.Word

open Idealize.ShloMosaic

/-- The even places' pairs (mask bit, sign bit) of a word, and the odd places'. -/
def evens (m s : BitVec 32) : BitVec 32 := (m &&& 1431655765#32) ||| (((s &&& m) &&& 1431655765#32) <<< 1)
def odds (m s : BitVec 32) : BitVec 32 := ((m &&& 2863311530#32) >>> 1) ||| ((s &&& m) &&& 2863311530#32)

/-- The two planes: the low halves' pairs and the high halves'. -/
def plane0 (m s : BitVec 32) : BitVec 32 := (evens m s &&& 65535#32) ||| (odds m s <<< 16)
def plane1 (m s : BitVec 32) : BitVec 32 := (evens m s >>> 16) ||| (odds m s &&& 4294901760#32)

/-- Four bits at the places that the unpacking keeps. -/
def four (a b c d : Bool) : BitVec 32 :=
  ((BitVec.ofBool a).setWidth 32 <<< 14) ||| ((BitVec.ofBool b).setWidth 32 <<< 15)
    ||| ((BitVec.ofBool c).setWidth 32 <<< 30) ||| ((BitVec.ofBool d).setWidth 32 <<< 31)

theorem and_four (w : BitVec 32) : w &&& 3221274624#32 = four (w.getLsbD 14) (w.getLsbD 15) (w.getLsbD 30) (w.getLsbD 31) := by
  apply BitVec.eq_of_getLsbD_eq
  intro i hi
  interval_cases i <;> simp [four, BitVec.getLsbD_setWidth]

/-- The last steps on a word: the kept bits, and the exponent made of the mask bit. -/
def fin (u : BitVec 32) : BitVec 32 := u - ((u &&& 1073758208#32) >>> 7)

/-- The pattern of a weight. -/
def pat (m s : Bool) : BitVec 16 := if m then (if s then 0xBF80#16 else 0x3F80#16) else 0#16

theorem fin_four : ∀ a b c d : Bool, (b → a) → (d → c) →
    (fin (four a b c d)).extractLsb' 0 16 = pat a b ∧ (fin (four a b c d)).extractLsb' 16 16 = pat c d := by decide +kernel

theorem pat_and : ∀ a b : Bool, pat a (b && a) = pat a b := by decide

/-- Row `i` of the eight rows made of plane 0's word, -/
theorem low (m s : BitVec 32) (i : Fin 8) :
    (fin ((plane0 m s <<< (14 - 2 * i.val)) &&& 3221274624#32)).extractLsb' 0 16 = pat (m.getLsbD (2 * i.val)) (s.getLsbD (2 * i.val))
    ∧ (fin ((plane0 m s <<< (14 - 2 * i.val)) &&& 3221274624#32)).extractLsb' 16 16 = pat (m.getLsbD (2 * i.val + 1)) (s.getLsbD (2 * i.val + 1)) := by
  rw [and_four]
  rw [← pat_and (m.getLsbD (2 * i.val)), ← pat_and (m.getLsbD (2 * i.val + 1))]
  have h : ∀ a b c d a' b' c' d' : Bool, a' = a → b' = (b && a) → c' = c → d' = (d && c) →
      (fin (four a' b' c' d')).extractLsb' 0 16 = pat a (b && a) ∧ (fin (four a' b' c' d')).extractLsb' 16 16 = pat c (d && c) := by
    rintro a b c d _ _ _ _ rfl rfl rfl rfl
    exact fin_four _ _ _ _ (by simp) (by simp)
  apply h <;> fin_cases i <;> simp [plane0, evens, odds]

/-- and of plane 1's. -/
theorem high (m s : BitVec 32) (i : Fin 8) :
    (fin ((plane1 m s <<< (14 - 2 * i.val)) &&& 3221274624#32)).extractLsb' 0 16 = pat (m.getLsbD (16 + 2 * i.val)) (s.getLsbD (16 + 2 * i.val))
    ∧ (fin ((plane1 m s <<< (14 - 2 * i.val)) &&& 3221274624#32)).extractLsb' 16 16 = pat (m.getLsbD (16 + 2 * i.val + 1)) (s.getLsbD (16 + 2 * i.val + 1)) := by
  rw [and_four]
  rw [← pat_and (m.getLsbD (16 + 2 * i.val)), ← pat_and (m.getLsbD (16 + 2 * i.val + 1))]
  have h : ∀ a b c d a' b' c' d' : Bool, a' = a → b' = (b && a) → c' = c → d' = (d && c) →
      (fin (four a' b' c' d')).extractLsb' 0 16 = pat a (b && a) ∧ (fin (four a' b' c' d')).extractLsb' 16 16 = pat c (d && c) := by
    rintro a b c d _ _ _ _ rfl rfl rfl rfl
    exact fin_four _ _ _ _ (by simp) (by simp)
  apply h <;> fin_cases i <;> simp [plane1, evens, odds]

/-- The reference's integer of a weight. -/
theorem ref_word (m s : BitVec 32) (p : Fin 32) :
    ((m.sshiftRight p.val) &&& 1#32) * (1#32 - 2#32 * ((s.sshiftRight p.val) &&& 1#32))
      = if m.getLsbD p.val then (if s.getLsbD p.val then 0xFFFFFFFF#32 else 1#32) else 0#32 := by
  have h : ∀ w : BitVec 32, (w.sshiftRight p.val) &&& 1#32 = if w.getLsbD p.val then 1#32 else 0#32 := by
    intro w
    apply BitVec.eq_of_getLsbD_eq
    intro i hi
    have hp := p.isLt
    rw [BitVec.getLsbD_and, BitVec.getLsbD_sshiftRight]
    by_cases h0 : i = 0
    · subst h0
      simp only [Nat.add_zero, hp, if_true]
      generalize w.getLsbD p.val = q
      cases q <;> rfl
    · have e1 : (1#32 : BitVec 32).getLsbD i = false := by
        rw [BitVec.getLsbD_one]; simp [h0]
      rw [e1, Bool.and_false]
      generalize w.getLsbD p.val = q
      cases q
      · simp
      · exact e1.symm
  rw [h, h]
  generalize m.getLsbD p.val = a
  generalize s.getLsbD p.val = b
  revert a b; decide

end Cert.Word
-- ==== Proof.KerY.lean ====
/- THE KERNEL'S PRODUCT AT AN INDEX: the unpacked weights are the ternary weights, and a block of the output is the
   product of the dequantised values with them. -/
module

public import proofs.«01_k».proof.Proof.Runs
public import proofs.«01_k».proof.Proof.KerQuant
public import proofs.«01_k».proof.Proof.Word
public import Idealize.ShloMosaic.Lib.BitcastPair

@[expose] public section

set_option maxRecDepth 16384

noncomputable section

namespace Cert.KernelIdeal.Run

open Idealize.ShloMosaic Idealize.ShloMosaic.TcCoe Idealize.ShloMosaic.Tactic
open Cert.KernelIdeal Cert.KernelIdeal.Gen Cert.Consts Cert.Spec Cert.KernelIdeal.Quant

theorem pay274_apply (m : Vec Ideal S256x80 .i32) (w : Fin 80) (n : Fin 256) : k0_pay274 (F := Ideal) m (ix2 w n) = m (ix2 n w) := by
  pointwise [k0_pay274]

theorem pay275_apply (m s : Vec Ideal S256x80 .i32) (w : Fin 80) (n : Fin 256) : k0_pay275 (F := Ideal) m s (ix2 w n) = s (ix2 n w) &&& m (ix2 n w) := by
  have e := pay274_apply m w n
  unfold k0_pay275
  generalize k0_pay274 (F := Ideal) m = A at *
  pointwise
  rw [e]; rfl

theorem pay276_apply (m s : Vec Ideal S256x80 .i32) (w : Fin 80) (n : Fin 256) : k0_pay276 (F := Ideal) m s (ix2 w n) = Word.evens (m (ix2 n w)) (s (ix2 n w)) := by
  have e := pay274_apply m w n
  have e' := pay275_apply m s w n
  unfold k0_pay276
  generalize k0_pay274 (F := Ideal) m = A at *
  generalize k0_pay275 (F := Ideal) m s = B at *
  show (A (ix2 w n) &&& 1431655765#32) ||| IntOp.shli .vector (B (ix2 w n) &&& 1431655765#32) 1#32 = _
  rw [e, e']; rfl

theorem pay277_apply (m s : Vec Ideal S256x80 .i32) (w : Fin 80) (n : Fin 256) : k0_pay277 (F := Ideal) m s (ix2 w n) = Word.odds (m (ix2 n w)) (s (ix2 n w)) := by
  have e := pay274_apply m w n
  have e' := pay275_apply m s w n
  unfold k0_pay277
  generalize k0_pay274 (F := Ideal) m = A at *
  generalize k0_pay275 (F := Ideal) m s = B at *
  show IntOp.shrui .vector (A (ix2 w n) &&& 2863311530#32) 1#32 ||| (B (ix2 w n) &&& 2863311530#32) = _
  rw [e, e']; rfl

theorem plane_zero (m s : Vec Ideal S256x80 .i32) (w : Fin 80) (n : Fin 256) : plane (F := Ideal) 0 m s (ix2 w n) = Word.plane0 (m (ix2 n w)) (s (ix2 n w)) := by
  have e := pay276_apply m s w n
  have e' := pay277_apply m s w n
  unfold plane
  rw [if_pos rfl]
  generalize k0_pay276 (F := Ideal) m s = A at *
  generalize k0_pay277 (F := Ideal) m s = B at *
  show (A (ix2 w n) &&& 65535#32) ||| IntOp.shli .vector (B (ix2 w n)) 16#32 = _
  rw [e, e']; rfl

theorem plane_one (m s : Vec Ideal S256x80 .i32) (w : Fin 80) (n : Fin 256) : plane (F := Ideal) 1 m s (ix2 w n) = Word.plane1 (m (ix2 n w)) (s (ix2 n w)) := by
  have e := pay276_apply m s w n
  have e' := pay277_apply m s w n
  unfold plane
  rw [if_neg (by decide)]
  unfold k0_pay278
  generalize k0_pay276 (F := Ideal) m s = A at *
  generalize k0_pay277 (F := Ideal) m s = B at *
  show IntOp.shrui .vector (A (ix2 w n)) 16#32 ||| (B (ix2 w n) &&& 4294901760#32) = _
  rw [e, e']; rfl

/-! ## Sixteen rows from one -/

/-- The words of the eight rows. -/
def rows8 (v : Vec Ideal S1x1x256 .i32) : IVec S8x256 32 :=
  andi (shli (broadcastTo S8x256 (shapeCast S1x256 (shapeCast S1x256 v shapeCasts_S1x1x256_S1x256) shapeCasts_S1x256_S1x256) broadcasts_S1x256_S8x256)
    k0_pay281) (broadcast S8x256 3221274624#32)

/-- Their last steps. -/
def fin8 (u : IVec S8x256 32) : IVec S8x256 32 :=
  subi u (shrui (andi u (broadcast S8x256 1073758208#32)) (broadcast S8x256 7#32))

theorem pay282_eq (v : Vec Ideal S1x1x256 .i32) : k0_pay282 (F := Ideal) v
    = shapeCast S16x256 (bitcastToFloat (F := Ideal) .bf16 (bitcast S16x256 16 (fin8 (rows8 v)) bitcasts_S8x256_w32_S16x256_w16)) shapeCasts_S16x256_S16x256 := by
  unfold k0_pay282; rfl

theorem pay281_apply (i : Fin 8) (n : Fin 256) : k0_pay281 (ix2 i n) = BitVec.ofNat 32 (14 - 2 * i.val) := by
  have e : iota .tc S8x256 32 [0] iota_S8x256_d0_w32 (ix2 i n) = BitVec.ofNat 32 i.val := by
    show BitVec.ofNat 32 _ = _
    congr 1
    show 0 * 8 + i.val = i.val
    omega
  unfold k0_pay281
  show 14#32 - 2#32 * iota .tc S8x256 32 [0] iota_S8x256_d0_w32 (ix2 i n) = _
  rw [e]
  clear e
  revert i; decide

theorem rows8_apply (v : Vec Ideal S1x1x256 .i32) (i : Fin 8) (n : Fin 256) :
    rows8 v (ix2 i n) = (v (ix3 0 0 n) <<< (14 - 2 * i.val)) &&& 3221274624#32 := by
  have e : broadcastTo S8x256 (shapeCast S1x256 (shapeCast S1x256 v shapeCasts_S1x1x256_S1x256) shapeCasts_S1x256_S1x256) broadcasts_S1x256_S8x256 (ix2 i n)
      = v (ix3 0 0 n) := by pointwise
  have e' := pay281_apply i n
  unfold rows8
  generalize broadcastTo S8x256 (shapeCast S1x256 (shapeCast S1x256 v shapeCasts_S1x1x256_S1x256) shapeCasts_S1x256_S1x256) broadcasts_S1x256_S8x256 = A at *
  generalize k0_pay281 = B at *
  show IntOp.shli .vector (A (ix2 i n)) (B (ix2 i n)) &&& 3221274624#32 = _
  rw [e, e']
  clear e e'
  generalize v (ix3 0 0 n) = q
  congr 1
  have hn : (BitVec.ofNat 32 (14 - 2 * i.val)).toNat = 14 - 2 * i.val := by rw [BitVec.toNat_ofNat]; omega
  rw [IntOp.shli, if_pos (by rw [hn]; omega), BitVec.shiftLeft_eq', hn]

theorem fin8_apply (u : IVec S8x256 32) (j : S8x256.Idx) : fin8 u j = Word.fin (u j) := rfl

theorem pay282_apply (v : Vec Ideal S1x1x256 .i32) (q : Fin 16) (n : Fin 256) :
    k0_pay282 (F := Ideal) v (ix2 q n) = Ideal.ofBits .bf16
      ((Word.fin ((v (ix3 0 0 n) <<< (14 - 2 * (q.val / 2))) &&& 3221274624#32)).extractLsb' (16 * (q.val % 2)) 16) := by
  have e : ∀ i : Fin 8, fin8 (rows8 v) (ix2 i n) = Word.fin ((v (ix3 0 0 n) <<< (14 - 2 * i.val)) &&& 3221274624#32) :=
    fun i => by rw [fin8_apply, rows8_apply]
  rw [pay282_eq, shapeCast_self]
  generalize fin8 (rows8 v) = A at *
  show Ideal.ofBits .bf16 (bitcast S16x256 16 A bitcasts_S8x256_w32_S16x256_w16 (ix2 q n)) = _
  congr 1
  rw [bitcast_32_16]
  have er : S16x256.row (ix2 q n) = q.val := rfl
  rw [← e ⟨q.val / 2, by omega⟩]
  simp only [er]
  congr 2
  funext a
  fin_cases a <;> rfl

/-- The value of a pattern. -/
theorem pat_val (a b : Bool) : Ideal.ofBits .bf16 (Word.pat a b) = tern a b := by
  cases a <;> cases b
  · exact zero_bf16
  · exact zero_bf16
  · exact one_bf16
  · exact neg_one_bf16

/-- The unpacked weights are the ternary ones. -/
theorem tOf_apply (m s : Vec Ideal S256x80 .i32) (j : Fin 2560) (n : Fin 256) :
    tOf (F := Ideal) m s (ix2 j n) = tern (bitS m n j) (bitS s n j) := by
  have e : tOf (F := Ideal) m s (ix2 j n) = k0_pay282 (F := Ideal) (rowVec (F := Ideal) m s ⟨j.val / 16, by omega⟩) (ix2 ⟨j.val % 16, by omega⟩ n) := by
    unfold tOf
    congr 1
    funext a
    fin_cases a <;> rfl
  have ev : rowVec (F := Ideal) m s ⟨j.val / 16, by omega⟩ (ix3 0 0 n) = plane (F := Ideal) (j.val / 16 % 2) m s (ix2 (blkOf j) n) := by
    unfold rowVec
    congr 1
    funext a
    fin_cases a
    · exact Fin.ext (by show j.val / 16 / 2 = j.val / 32; omega)
    · rfl
  rw [e, pay282_apply, ev, ← pat_val]
  congr 1
  rw [bitS, bitS]
  have hj := j.isLt
  have cases4 : (j.val / 16 % 2 = 0 ∧ j.val % 16 % 2 = 0) ∨ (j.val / 16 % 2 = 0 ∧ j.val % 16 % 2 = 1)
      ∨ (j.val / 16 % 2 = 1 ∧ j.val % 16 % 2 = 0) ∨ (j.val / 16 % 2 = 1 ∧ j.val % 16 % 2 = 1) := by omega
  dsimp only
  rcases cases4 with ⟨h1, h2⟩ | ⟨h1, h2⟩ | ⟨h1, h2⟩ | ⟨h1, h2⟩ <;> rw [h1, h2]
  · rw [plane_zero, show j.val % 32 = 2 * (j.val % 16 / 2) by omega]
    exact (Word.low _ _ ⟨j.val % 16 / 2, by omega⟩).1
  · rw [plane_zero, show j.val % 32 = 2 * (j.val % 16 / 2) + 1 by omega]
    exact (Word.low _ _ ⟨j.val % 16 / 2, by omega⟩).2
  · rw [plane_one, show j.val % 32 = 16 + 2 * (j.val % 16 / 2) by omega]
    exact (Word.high _ _ ⟨j.val % 16 / 2, by omega⟩).1
  · rw [plane_one, show j.val % 32 = 16 + 2 * (j.val % 16 / 2) + 1 by omega]
    exact (Word.high _ _ ⟨j.val % 16 / 2, by omega⟩).2

/-! ## The product -/

theorem prod_apply (xb : FVec Ideal S1536x2560 .bf16) (t : FVec Ideal S2560x256 .bf16) (a : Vec Ideal S1x256 .bf16) (r : Fin 1536) (n : Fin 256) :
    k0_pay1 (F := Ideal) (k0_pay494 (F := Ideal) xb t) a (ix2 r n) = (∑ j : Fin 2560, xb (ix2 r j) * t (ix2 j n)) * a (ix2 0 n) := by
  pointwise [k0_pay1, k0_pay494]

/-- A block of the first result. -/
theorem yOf_apply (x : FVec Ideal S1536x2560 .bf16) (m s : Vec Ideal S256x80 .i32) (a : Vec Ideal S1x256 .bf16) (hx : ∀ r b, InR x r b)
    (r : Fin 1536) (n : Fin 256) : yOf (F := Ideal) (xbOf (F := Ideal) x) m s a (ix2 r n) = yS x m s a r n := by
  unfold yOf
  rw [prod_apply, yS]
  congr 1
  refine Finset.sum_congr rfl fun j _ => ?_
  rw [xbOf_apply x hx, tOf_apply]

end Cert.KernelIdeal.Run
-- ==== Proof.KerFinal.lean ====
/- WHAT THE KERNEL LEAVES IN ITS RESULTS: the specification of the whole arrays. -/
module

public import proofs.«01_k».proof.Proof.Frame
public import proofs.«01_k».proof.Proof.KerQuant
public import proofs.«01_k».proof.Proof.KerY
public import Idealize.ShloMosaic.Lib.Pipeline.ValueKit
public import Idealize.ShloMosaic.Lib.StableHlo.RunRead

@[expose] public section

set_option maxRecDepth 16384

noncomputable section

namespace Cert.KernelIdeal.Run

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Quant
open Cert.Spec

variable (m : (ℓ : Loc nD τ sig) → Buf (Elt Ideal) ℓ) (ρ : Dev nD → PrngReg)

/-- The activations as a matrix. -/
def Xm (c : Dev nD) : Vec Ideal S1536x2560 .bf16 :=
  shapeCast S1536x2560 (m ((c.tc : Thread nD τ).loc main_arg0)) shapeCasts_S12x128x2560_S1536x2560

/-- The scales of the weights as a row. -/
def Am (c : Dev nD) : Vec Ideal S1x6912 .bf16 :=
  shapeCast S1x6912 (m ((c.tc : Thread nD τ).loc main_arg3)) shapeCasts_S6912_S1x6912

theorem V_v0 (c : Dev nD) : V m c main_v0 = Xm m c := by
  unfold Xm
  after_reads_simp
  try rfl

theorem V_v1 (c : Dev nD) : V m c main_v1 = Am m c := by
  unfold Am
  after_reads_simp
  try rfl

theorem index_zero0 (t : Fin cfg0.N) (a : Fin 2) : (cfg0.win 0).index t a = 0 := by
  revert t a; decide +kernel
theorem index_zero5 (t : Fin cfg0.N) (a : Fin 2) : (cfg0.win 5).index t a = 0 := by
  revert t a; decide +kernel
theorem index_zero6 (t : Fin cfg0.N) (a : Fin 2) : (cfg0.win 6).index t a = 0 := by
  revert t a; decide +kernel
theorem index1 (t : Fin cfg0.N) : (cfg0.win 1).index t 0 = t.val ∧ (cfg0.win 1).index t 1 = 0 := by
  revert t; decide +kernel
theorem index2 (t : Fin cfg0.N) : (cfg0.win 2).index t 0 = t.val ∧ (cfg0.win 2).index t 1 = 0 := by
  revert t; decide +kernel
theorem index3 (t : Fin cfg0.N) : (cfg0.win 3).index t 0 = 0 ∧ (cfg0.win 3).index t 1 = t.val := by
  revert t; decide +kernel
theorem index4 (t : Fin cfg0.N) : (cfg0.win 4).index t 0 = 0 ∧ (cfg0.win 4).index t 1 = t.val := by
  revert t; decide +kernel

theorem X0_eq (c : Dev nD) : X0 m c = Xm m c := by
  rw [← V_v0]
  funext y
  show V m c main_v0 (((cfg0.win 0).rect t00).emb y) = V m c main_v0 y
  refine congrArg _ (Shape.idx_ext₂ ?_ ?_)
  · exact (cfg0.win 0).rect_emb_val_of_index_zero t00 0 (index_zero0 t00 0) y
  · exact (cfg0.win 0).rect_emb_val_of_index_zero t00 1 (index_zero0 t00 1) y

/-- What each result ends with. -/
def G4 (c : Dev nD) : Vec Ideal S1536x6912 .bf16 :=
  fun y => yS (Xm m c) (m ((c.tc : Thread nD τ).loc main_arg1)) (m ((c.tc : Thread nD τ).loc main_arg2)) (Am m c) (y 0) (y 1)
def G5 (c : Dev nD) : Vec Ideal S1536x2560 .fp8e4m3 := fun y => codeS (Xm m c) (y 0) (y 1)
def G6 (c : Dev nD) : Vec Ideal S1536x80 .f32 := fun y => scaleS (Xm m c) (y 0) (y 1)

/-- The last point. -/
abbrev t26 : Fin cfg0.N := ⟨26, by decide⟩

section InRange

variable (c : Dev nD) (hx : ∀ r b, InR (Xm m c) r b)
include hx

theorem flushed5 (t : Fin cfg0.N) :
    (dats m 0 c).flushed 5 t = ((cfg0.win 5).blk t).view.read (Elt Ideal) (G5 m c) := by
  show (cfg0.win 5).cut (grid0.coords t) ((dats m 0 c).after 5 t) = _
  rw [after0_5, X0_eq]
  funext y
  have hy0 : (y 0).val < 1536 := (y 0).isLt
  have hy1 : (y 1).val < 2560 := (y 1).isLt
  show codesOf (F := Ideal) (Xm m c) ((cfg0.win 5).xinj (grid0.coords t) y) = G5 m c (((cfg0.win 5).rect t).emb y)
  have e1 : ((cfg0.win 5).rect t).emb y = ix2 (⟨(y 0).val, hy0⟩ : Fin 1536) (⟨(y 1).val, hy1⟩ : Fin 2560) := Shape.idx_ext₂
    ((cfg0.win 5).rect_emb_val_of_index_zero t 0 (index_zero5 t 0) y) ((cfg0.win 5).rect_emb_val_of_index_zero t 1 (index_zero5 t 1) y)
  have e2 : (cfg0.win 5).xinj (grid0.coords t) y = ix2 (⟨(y 0).val, hy0⟩ : Fin 1536) (⟨(y 1).val, hy1⟩ : Fin 2560) := Shape.idx_ext₂ rfl rfl
  rw [e1, e2, codesOf_apply (Xm m c) hx]
  rfl

theorem flushed6 (t : Fin cfg0.N) :
    (dats m 0 c).flushed 6 t = ((cfg0.win 6).blk t).view.read (Elt Ideal) (G6 m c) := by
  show (cfg0.win 6).cut (grid0.coords t) ((dats m 0 c).after 6 t) = _
  rw [after0_6, X0_eq]
  funext y
  have hy0 : (y 0).val < 1536 := (y 0).isLt
  have hy1 : (y 1).val < 80 := (y 1).isLt
  show scalesOf (F := Ideal) (Xm m c) ((cfg0.win 6).xinj (grid0.coords t) y) = G6 m c (((cfg0.win 6).rect t).emb y)
  have e1 : ((cfg0.win 6).rect t).emb y = ix2 (⟨(y 0).val, hy0⟩ : Fin 1536) (⟨(y 1).val, hy1⟩ : Fin 80) := Shape.idx_ext₂
    ((cfg0.win 6).rect_emb_val_of_index_zero t 0 (index_zero6 t 0) y) ((cfg0.win 6).rect_emb_val_of_index_zero t 1 (index_zero6 t 1) y)
  have e2 : (cfg0.win 6).xinj (grid0.coords t) y = ix2 (⟨(y 0).val, hy0⟩ : Fin 1536) (⟨(y 1).val, hy1⟩ : Fin 80) := Shape.idx_ext₂ rfl rfl
  rw [e1, e2, scalesOf_apply (Xm m c) hx]
  rfl

omit hx in
/-- The rows of the packed weights that point `t` reads, -/
theorem iblk1_apply (t : Fin cfg0.N) (n : Fin 256) (b : Fin 80) (h : 256 * t.val + n.val < 6912) :
    iblk m c 1 t (ix2 n b) = m ((c.tc : Thread nD τ).loc main_arg1) (ix2 (⟨256 * t.val + n.val, h⟩ : Fin 6912) b) := by
  show V m c main_arg1 (((cfg0.win 1).rect t).emb (ix2 n b)) = _
  rw [V_main_arg1]
  refine congrArg _ (Shape.idx_ext₂ ?_ ?_)
  · refine ((cfg0.win 1).rect_emb_val t (ix2 n b) 0).trans ?_
    rw [(index1 t).1]
    show t.val * 256 + n.val = 256 * t.val + n.val
    omega
  · refine ((cfg0.win 1).rect_emb_val t (ix2 n b) 1).trans ?_
    rw [(index1 t).2]
    show 0 * 80 + b.val = b.val
    omega

omit hx in
/-- of the second array of words, -/
theorem iblk2_apply (t : Fin cfg0.N) (n : Fin 256) (b : Fin 80) (h : 256 * t.val + n.val < 6912) :
    iblk m c 2 t (ix2 n b) = m ((c.tc : Thread nD τ).loc main_arg2) (ix2 (⟨256 * t.val + n.val, h⟩ : Fin 6912) b) := by
  show V m c main_arg2 (((cfg0.win 2).rect t).emb (ix2 n b)) = _
  rw [V_main_arg2]
  refine congrArg _ (Shape.idx_ext₂ ?_ ?_)
  · refine ((cfg0.win 2).rect_emb_val t (ix2 n b) 0).trans ?_
    rw [(index2 t).1]
    show t.val * 256 + n.val = 256 * t.val + n.val
    omega
  · refine ((cfg0.win 2).rect_emb_val t (ix2 n b) 1).trans ?_
    rw [(index2 t).2]
    show 0 * 80 + b.val = b.val
    omega

omit hx in
/-- and the factors of its columns. -/
theorem iblk3_apply (t : Fin cfg0.N) (n : Fin 256) (h : 256 * t.val + n.val < 6912) :
    iblk m c 3 t (ix2 (0 : Fin 1) n) = Am m c (ix2 (0 : Fin 1) (⟨256 * t.val + n.val, h⟩ : Fin 6912)) := by
  show V m c main_v1 (((cfg0.win 3).rect t).emb (ix2 (0 : Fin 1) n)) = _
  rw [V_v1]
  refine congrArg _ (Shape.idx_ext₂ ?_ ?_)
  · refine ((cfg0.win 3).rect_emb_val t (ix2 (0 : Fin 1) n) 0).trans ?_
    rw [(index3 t).1]
    rfl
  · refine ((cfg0.win 3).rect_emb_val t (ix2 (0 : Fin 1) n) 1).trans ?_
    rw [(index3 t).2]
    show t.val * 256 + n.val = 256 * t.val + n.val
    omega

omit hx in
/-- The product of the block is the block of the product. -/
theorem yS_block (t : Fin cfg0.N) (r : Fin 1536) (n : Fin 256) (h : 256 * t.val + n.val < 6912) :
    yS (Xm m c) (iblk m c 1 t) (iblk m c 2 t) (iblk m c 3 t) r n
      = yS (Xm m c) (m ((c.tc : Thread nD τ).loc main_arg1)) (m ((c.tc : Thread nD τ).loc main_arg2)) (Am m c) r (⟨256 * t.val + n.val, h⟩ : Fin 6912) := by
  unfold yS bitS
  simp only [iblk1_apply m c t n _ h, iblk2_apply m c t n _ h, iblk3_apply m c t n h]

theorem flushed4 (t : Fin cfg0.N) :
    (dats m 0 c).flushed 4 t = ((cfg0.win 4).blk t).view.read (Elt Ideal) (G4 m c) := by
  show (cfg0.win 4).cut (grid0.coords t) ((dats m 0 c).after 4 t) = _
  rw [after0_4, X0_eq]
  funext y
  have hN : t.val < 27 := lt_of_lt_of_eq t.isLt (show cfg0.N = 27 from N_0)
  have hy0 : (y 0).val < 1536 := (y 0).isLt
  have hy1 : (y 1).val < 256 := (y 1).isLt
  have hh : 256 * t.val + (y 1).val < 6912 := by omega
  show yOf (F := Ideal) (xbOf (F := Ideal) (Xm m c)) (iblk m c 1 t) (iblk m c 2 t) (iblk m c 3 t) ((cfg0.win 4).xinj (grid0.coords t) y)
    = G4 m c (((cfg0.win 4).rect t).emb y)
  have e1 : ((cfg0.win 4).rect t).emb y = ix2 (⟨(y 0).val, hy0⟩ : Fin 1536) (⟨256 * t.val + (y 1).val, hh⟩ : Fin 6912) := by
    refine Shape.idx_ext₂ ((cfg0.win 4).rect_emb_val_of_index_zero t 0 (index4 t).1 y) ?_
    refine ((cfg0.win 4).rect_emb_val t y 1).trans ?_
    rw [(index4 t).2]
    show t.val * 256 + (y 1).val = 256 * t.val + (y 1).val
    omega
  have e2 : (cfg0.win 4).xinj (grid0.coords t) y = ix2 (⟨(y 0).val, hy0⟩ : Fin 1536) (⟨(y 1).val, hy1⟩ : Fin 256) := Shape.idx_ext₂ rfl rfl
  rw [e1, e2, yOf_apply (Xm m c) _ _ _ hx]
  exact yS_block m c t ⟨(y 0).val, hy0⟩ ⟨(y 1).val, hy1⟩ hh

theorem arr4 : (dats m 0 c).arrAt 4 cfg0.N = G4 m c := by
  refine (dats m 0 c).arrAt_eq_of_cover 4 (G4 m c) (fun t _ => flushed4 m c hx t) fun i => ?_
  have h0 : (i 0).val < 1536 := (i 0).isLt
  have h1 : (i 1).val < 6912 := (i 1).isLt
  have ht : (i 1).val / 256 < cfg0.N := by rw [show cfg0.N = 27 from N_0]; omega
  refine ⟨⟨(i 1).val / 256, ht⟩, flush0_4 _, ((cfg0.win 4).emb_mem_blk_iff _ i).mpr ?_⟩
  intro a
  match a with
  | ⟨0, _⟩ =>
    have e := (index4 ⟨(i 1).val / 256, ht⟩).1
    show (cfg0.win 4).index _ 0 * 1536 ≤ (i 0).val ∧ (i 0).val < (cfg0.win 4).index _ 0 * 1536 + 1536
    rw [e]; omega
  | ⟨1, _⟩ =>
    have e := (index4 ⟨(i 1).val / 256, ht⟩).2
    show (cfg0.win 4).index _ 1 * 256 ≤ (i 1).val ∧ (i 1).val < (cfg0.win 4).index _ 1 * 256 + 256
    rw [e]
    show (i 1).val / 256 * 256 ≤ (i 1).val ∧ (i 1).val < (i 1).val / 256 * 256 + 256
    omega

theorem arr5 : (dats m 0 c).arrAt 5 cfg0.N = G5 m c := by
  refine (dats m 0 c).arrAt_eq_of_cover 5 (G5 m c) (fun t _ => flushed5 m c hx t) fun i => ?_
  have h0 : (i 0).val < 1536 := (i 0).isLt
  have h1 : (i 1).val < 2560 := (i 1).isLt
  refine ⟨t26, (flush0_5 t26).mpr rfl, ((cfg0.win 5).emb_mem_blk_iff _ i).mpr ?_⟩
  intro a
  match a with
  | ⟨0, _⟩ =>
    show (cfg0.win 5).index t26 0 * 1536 ≤ (i 0).val ∧ (i 0).val < (cfg0.win 5).index t26 0 * 1536 + 1536
    rw [index_zero5 t26 0]; omega
  | ⟨1, _⟩ =>
    show (cfg0.win 5).index t26 1 * 2560 ≤ (i 1).val ∧ (i 1).val < (cfg0.win 5).index t26 1 * 2560 + 2560
    rw [index_zero5 t26 1]; omega

theorem arr6 : (dats m 0 c).arrAt 6 cfg0.N = G6 m c := by
  refine (dats m 0 c).arrAt_eq_of_cover 6 (G6 m c) (fun t _ => flushed6 m c hx t) fun i => ?_
  have h0 : (i 0).val < 1536 := (i 0).isLt
  have h1 : (i 1).val < 80 := (i 1).isLt
  refine ⟨t26, (flush0_6 t26).mpr rfl, ((cfg0.win 6).emb_mem_blk_iff _ i).mpr ?_⟩
  intro a
  match a with
  | ⟨0, _⟩ =>
    show (cfg0.win 6).index t26 0 * 1536 ≤ (i 0).val ∧ (i 0).val < (cfg0.win 6).index t26 0 * 1536 + 1536
    rw [index_zero6 t26 0]; omega
  | ⟨1, _⟩ =>
    show (cfg0.win 6).index t26 1 * 80 ≤ (i 1).val ∧ (i 1).val < (cfg0.win 6).index t26 1 * 80 + 80
    rw [index_zero6 t26 1]; omega

end InRange

/-- The run: each result at its specification, the arguments unchanged. -/
theorem run_value (hx : ∀ c r b, InR (Xm m c) r b) :
    θ_run defs (onTc (τ := τ) (main (F := Ideal))) ⟨m, fun _ => 0, ρ⟩ (fun r => ∀ c : Dev nD,
      r.2.mem ((c.tc : Thread nD τ).loc main_v2_0) = G4 m c
      ∧ r.2.mem ((c.tc : Thread nD τ).loc main_v2_1) = G5 m c
      ∧ r.2.mem ((c.tc : Thread nD τ).loc main_v2_2) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(((h.1 c).1 4 : _ = _)).trans (arr4 m c (hx c)), (((h.1 c).1 5 : _ = _)).trans (arr5 m c (hx c)),
        (((h.1 c).1 6 : _ = _)).trans (arr6 m c (hx c)), h.2 c⟩)
    (θ_run_and (run_main m ρ) (unchanged m ρ))

end Cert.KernelIdeal.Run
-- ==== Proof.RefY.lean ====
/- THE REFERENCE'S PRODUCT AT AN INDEX: its ternary weights, and the product of the dequantised values with them. -/
module

public import proofs.«01_k».proof.Proof.RefQuant
public import proofs.«01_k».proof.Proof.Word
public import Idealize.ShloMosaic.Lib.MatmulPlain

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Consts Cert.Spec

/-- One bit of every word. -/
def bitsV (w : Vec Ideal S6912x80 .i32) : IVec S6912x80x32 32 :=
  andi (shrsi (broadcastTo S6912x80x32 (shapeCast S6912x80x1 w shapeCasts_S6912x80_S6912x80x1) broadcasts_S6912x80x1_S6912x80x32)
    (iota .tc S6912x80x32 32 [2] iota_S6912x80x32_d2_w32)) (broadcast S6912x80x32 1#32)

/-- The weights. -/
def ternV (m s : Vec Ideal S6912x80 .i32) : FVec Ideal S6912x80x32 .bf16 :=
  truncf .bf16 (sitofp .f32 (muli (bitsV m) (subi (broadcast S6912x80x32 1#32) (muli (broadcast S6912x80x32 2#32) (bitsV s))))) bitsLt_bf16_f32

/-- The dequantised values. -/
def xbV (sc : FVec Ideal S1536x80 .f32) (c : FVec Ideal S1536x80x32 .fp8e4m3) : FVec Ideal S1536x80x32 .bf16 :=
  mulf (extf .bf16 c bitsLt_fp8e4m3_bf16) (broadcastTo S1536x80x32 (shapeCast S1536x80x1 (truncf .bf16 sc bitsLt_bf16_f32) shapeCasts_S1536x80_S1536x80x1) broadcasts_S1536x80x1_S1536x80x32)

/-- The product, times the output's factor. -/
def outV (xb : FVec Ideal S1536x80x32 .bf16) (t : FVec Ideal S6912x80x32 .bf16) (a : Vec Ideal S1x6912 .bf16) : FVec Ideal S1536x6912 .bf16 :=
  truncf .bf16 (mulf (matmul dot_S1536x2560_S6912x2560_S1536x6912_1_1_0_0_n_n none (shapeCast S1536x2560 xb shapeCasts_S1536x80x32_S1536x2560)
      (shapeCast S6912x2560 t shapeCasts_S6912x80x32_S6912x2560) (constant S1536x6912 .f32 0x00000000#32))
    (broadcastTo S1536x6912 (extf .f32 (shapeCast S1x6912 a shapeCasts_S1x6912_S1x6912) bitsLt_bf16_f32) broadcasts_S1x6912_S1536x6912)) bitsLt_bf16_f32

theorem pay1_eq (sc : FVec Ideal S1536x80 .f32) (c : FVec Ideal S1536x80x32 .fp8e4m3) (m s : Vec Ideal S6912x80 .i32) (a : Vec Ideal S1x6912 .bf16) :
    k0_pay1 (F := Ideal) sc c (iota .tc S6912x80x32 32 [2] iota_S6912x80x32_d2_w32) (k0_pay7 (F := Ideal) m) k0_pay8 s a = outV (xbV sc c) (ternV m s) a := by
  unfold k0_pay1 k0_pay7 k0_pay8; rfl

theorem bitsV_apply (w : Vec Ideal S6912x80 .i32) (n : Fin 6912) (b : Fin 80) (p : Fin 32) :
    bitsV w (ix3 n b p) = ((w (ix2 n b)).sshiftRight p.val) &&& 1#32 := by
  have e : broadcastTo S6912x80x32 (shapeCast S6912x80x1 w shapeCasts_S6912x80_S6912x80x1) broadcasts_S6912x80x1_S6912x80x32 (ix3 n b p) = w (ix2 n b) := by
    pointwise
  have ei : iota .tc S6912x80x32 32 [2] iota_S6912x80x32_d2_w32 (ix3 n b p) = BitVec.ofNat 32 p.val := by
    show BitVec.ofNat 32 _ = _
    congr 1
    show 0 * 32 + p.val = p.val
    omega
  show IntOp.shrsi .vector (broadcastTo S6912x80x32 (shapeCast S6912x80x1 w shapeCasts_S6912x80_S6912x80x1) broadcasts_S6912x80x1_S6912x80x32 (ix3 n b p))
    (iota .tc S6912x80x32 32 [2] iota_S6912x80x32_d2_w32 (ix3 n b p)) &&& 1#32 = _
  rw [e, ei]
  have hp := p.isLt
  have hn : (BitVec.ofNat 32 p.val).toNat = p.val := by rw [BitVec.toNat_ofNat]; omega
  rw [IntOp.shrsi, if_pos (by rw [hn]; exact hp), BitVec.sshiftRight', hn]

theorem ternV_apply (m s : Vec Ideal S6912x80 .i32) (n : Fin 6912) (b : Fin 80) (p : Fin 32) :
    ternV m s (ix3 n b p) = tern ((m (ix2 n b)).getLsbD p.val) ((s (ix2 n b)).getLsbD p.val) := by
  have em := bitsV_apply m n b p
  have es := bitsV_apply s n b p
  unfold ternV
  generalize bitsV m = u at *
  generalize bitsV s = v at *
  show (((u (ix3 n b p) * (1#32 - 2#32 * v (ix3 n b p))).toInt : ℝ) : EReal) = _
  rw [em, es, Word.ref_word]
  generalize (m (ix2 n b)).getLsbD p.val = x
  generalize (s (ix2 n b)).getLsbD p.val = y
  cases x <;> cases y <;> simp [tern]

theorem xbV_apply (sc : FVec Ideal S1536x80 .f32) (c : FVec Ideal S1536x80x32 .fp8e4m3) (r : Fin 1536) (b : Fin 80) (p : Fin 32) :
    xbV sc c (ix3 r b p) = c (ix3 r b p) * sc (ix2 r b) := by
  pointwise [xbV]

theorem flatW_apply (A : FVec Ideal S6912x80x32 .bf16) (n : Fin 6912) (j : Fin 2560) :
    shapeCast S6912x2560 A shapeCasts_S6912x80x32_S6912x2560 (ix2 n j) = A (ix3 n (blkOf j) ⟨j.val % 32, by omega⟩) := by
  pointwise
  rfl

theorem outV_apply (xb : FVec Ideal S1536x80x32 .bf16) (t : FVec Ideal S6912x80x32 .bf16) (a : Vec Ideal S1x6912 .bf16) (r : Fin 1536) (n : Fin 6912) :
    outV xb t a (ix2 r n) = (∑ j : Fin 2560, xb (ix3 r (blkOf j) ⟨j.val % 32, by omega⟩) * t (ix3 n (blkOf j) ⟨j.val % 32, by omega⟩)) * a (ix2 0 n) := by
  have e1 := flat_apply (φ := .bf16) r xb
  have e2 := flatW_apply t n
  unfold outV
  generalize shapeCast S1536x2560 xb shapeCasts_S1536x80x32_S1536x2560 = X at *
  generalize shapeCast S6912x2560 t shapeCasts_S6912x80x32_S6912x2560 = T at *
  simp only [← e1, ← e2]
  pointwise

/-- The reference's first result. -/
theorem y_apply (x : FVec Ideal S1536x2560 .bf16) (m s : Vec Ideal S6912x80 .i32) (a : Vec Ideal S1x6912 .bf16) (hx : ∀ r b, InR x r b)
    (r : Fin 1536) (n : Fin 6912) :
    k0_pay1 (F := Ideal) (k0_pay4 (F := Ideal) x) (k0_pay5 (F := Ideal) x) (iota .tc S6912x80x32 32 [2] iota_S6912x80x32_d2_w32) (k0_pay7 (F := Ideal) m) k0_pay8 s a (ix2 r n)
      = yS x m s a r n := by
  rw [pay1_eq, outV_apply, yS]
  congr 1
  refine Finset.sum_congr rfl fun j _ => ?_
  have ej : (⟨32 * (blkOf j).val + j.val % 32, by have := (blkOf j).isLt; omega⟩ : Fin 2560) = j := Fin.ext (by show 32 * (j.val / 32) + j.val % 32 = j.val; omega)
  rw [xbV_apply, ternV_apply, pay5_apply x r (blkOf j) (hx r), pay4_apply x r (blkOf j) (hx r), xbS]
  dsimp only
  rw [ej]
  rfl

end Cert.ReferenceIdeal.Val
-- ==== Proof.RefFinal.lean ====
/- WHAT THE REFERENCE LEAVES IN ITS RESULTS: the specification of the whole arrays. -/
module

public import proofs.«01_k».proof.Proof.Gen.ReferenceIdeal.Frame
public import proofs.«01_k».proof.Proof.RefQuant
public import proofs.«01_k».proof.Proof.RefY
public import Idealize.ShloMosaic.Lib.Pipeline.ValueKit
public import Idealize.ShloMosaic.Lib.StableHlo.RunRead

@[expose] public section

set_option maxRecDepth 16384

noncomputable section

namespace Cert.ReferenceIdeal.Val

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.Spec

variable (m : (ℓ : Loc nD τ sig) → Buf (Elt Ideal) ℓ) (ρ : Dev nD → PrngReg)

/-- The activations as a matrix. -/
def Xm (c : Dev nD) : Vec Ideal S1536x2560 .bf16 :=
  shapeCast S1536x2560 (m ((c.tc : Thread nD τ).loc main_arg0)) shapeCasts_S12x128x2560_S1536x2560

/-- The scales of the weights as a row. -/
def Am (c : Dev nD) : Vec Ideal S1x6912 .bf16 :=
  shapeCast S1x6912 (m ((c.tc : Thread nD τ).loc main_arg3)) shapeCasts_S6912_S1x6912

theorem V_v0 (c : Dev nD) : V m c main_v0 = Xm m c := by
  unfold Xm
  after_reads_simp
  try rfl

theorem V_v1 (c : Dev nD) : V m c main_v1 = Am m c := by
  unfold Am
  after_reads_simp
  try rfl

/-- The single point reads and writes whole arrays: every block index is zero. -/
theorem index_zero (w : Fin 7) : ∀ (t : Fin cfg0.N) (a : Fin (cfg0.win w).shape.rank), (cfg0.win w).index t a = 0 := by
  revert w; decide +kernel

theorem iblk0_eq (c : Dev nD) (t : Fin cfg0.N) : iblk m c 0 t = Xm m c := by
  rw [← V_v0]
  funext y
  show V m c main_v0 (((cfg0.win 0).rect t).emb y) = V m c main_v0 y
  exact congrArg _ (Shape.idx_ext₂ ((cfg0.win 0).rect_emb_val_of_index_zero t 0 (index_zero 0 t 0) y)
    ((cfg0.win 0).rect_emb_val_of_index_zero t 1 (index_zero 0 t 1) y))

theorem iblk1_eq (c : Dev nD) (t : Fin cfg0.N) : iblk m c 1 t = m ((c.tc : Thread nD τ).loc main_arg1) := by
  rw [← V_main_arg1 m c]
  funext y
  show V m c main_arg1 (((cfg0.win 1).rect t).emb y) = V m c main_arg1 y
  exact congrArg _ (Shape.idx_ext₂ ((cfg0.win 1).rect_emb_val_of_index_zero t 0 (index_zero 1 t 0) y)
    ((cfg0.win 1).rect_emb_val_of_index_zero t 1 (index_zero 1 t 1) y))

theorem iblk2_eq (c : Dev nD) (t : Fin cfg0.N) : iblk m c 2 t = m ((c.tc : Thread nD τ).loc main_arg2) := by
  rw [← V_main_arg2 m c]
  funext y
  show V m c main_arg2 (((cfg0.win 2).rect t).emb y) = V m c main_arg2 y
  exact congrArg _ (Shape.idx_ext₂ ((cfg0.win 2).rect_emb_val_of_index_zero t 0 (index_zero 2 t 0) y)
    ((cfg0.win 2).rect_emb_val_of_index_zero t 1 (index_zero 2 t 1) y))

theorem iblk3_eq (c : Dev nD) (t : Fin cfg0.N) : iblk m c 3 t = Am m c := by
  rw [← V_v1]
  funext y
  show V m c main_v1 (((cfg0.win 3).rect t).emb y) = V m c main_v1 y
  exact congrArg _ (Shape.idx_ext₂ ((cfg0.win 3).rect_emb_val_of_index_zero t 0 (index_zero 3 t 0) y)
    ((cfg0.win 3).rect_emb_val_of_index_zero t 1 (index_zero 3 t 1) y))

theorem zero2 : (![0, 0] : Fin 2 → ℕ) = fun _ => 0 := by
  funext a; match a with | ⟨0, _⟩ => rfl | ⟨1, _⟩ => rfl

section Out

variable {F : FTy → Type} [FloatOps F]
variable (x0 : Vec F S1536x2560 .bf16) (x1 x2 : Vec F S6912x80 .i32) (x3 : Vec F S1x6912 .bf16)

theorem out4_eq : out0_4 x0 x1 x2 x3
    = k0_pay1 (k0_pay4 x0) (k0_pay5 x0) (iota .tc S6912x80x32 32 [2] iota_S6912x80x32_d2_w32) (k0_pay7 x1) k0_pay8 x2 x3 := by
  unfold out0_4
  rw [View.ld_unit_zero zero2, View.ld_unit_zero zero2, View.ld_unit_zero zero2, View.ld_unit_zero zero2, View.canon_unit_zero zero2]

theorem out5_eq : out0_5 x0 x1 x2 x3 = k0_pay6 x0 := by
  unfold out0_5
  rw [View.ld_unit_zero zero2, View.canon_unit_zero zero2]

theorem out6_eq : out0_6 x0 x1 x2 x3 = k0_pay4 x0 := by
  unfold out0_6
  rw [View.ld_unit_zero zero2, View.canon_unit_zero zero2]

end Out

/-- What each result ends with. -/
def G4 (c : Dev nD) : Vec Ideal S1536x6912 .bf16 :=
  fun y => yS (Xm m c) (m ((c.tc : Thread nD τ).loc main_arg1)) (m ((c.tc : Thread nD τ).loc main_arg2)) (Am m c) (y 0) (y 1)
def G5 (c : Dev nD) : Vec Ideal S1536x2560 .fp8e4m3 := fun y => codeS (Xm m c) (y 0) (y 1)
def G6 (c : Dev nD) : Vec Ideal S1536x80 .f32 := fun y => scaleS (Xm m c) (y 0) (y 1)

section InRange

variable (c : Dev nD) (hx : ∀ r b, InR (Xm m c) r b)
include hx

theorem flushed4 (t : Fin cfg0.N) :
    (dats m 0 c).flushed 4 t = ((cfg0.win 4).blk t).view.read (Elt Ideal) (G4 m c) := by
  show (cfg0.win 4).cut (grid0.coords t) ((dats m 0 c).after 4 t) = _
  rw [after0_4, iblk0_eq, iblk1_eq, iblk2_eq, iblk3_eq, out4_eq]
  funext y
  have hy0 : (y 0).val < 1536 := (y 0).isLt
  have hy1 : (y 1).val < 6912 := (y 1).isLt
  have e1 : ((cfg0.win 4).rect t).emb y = ix2 (⟨(y 0).val, hy0⟩ : Fin 1536) (⟨(y 1).val, hy1⟩ : Fin 6912) := Shape.idx_ext₂
    ((cfg0.win 4).rect_emb_val_of_index_zero t 0 (index_zero 4 t 0) y) ((cfg0.win 4).rect_emb_val_of_index_zero t 1 (index_zero 4 t 1) y)
  have e2 : (cfg0.win 4).xinj (grid0.coords t) y = ix2 (⟨(y 0).val, hy0⟩ : Fin 1536) (⟨(y 1).val, hy1⟩ : Fin 6912) := Shape.idx_ext₂ rfl rfl
  have e3 := y_apply (Xm m c) (m ((c.tc : Thread nD τ).loc main_arg1)) (m ((c.tc : Thread nD τ).loc main_arg2)) (Am m c) hx
    (⟨(y 0).val, hy0⟩ : Fin 1536) (⟨(y 1).val, hy1⟩ : Fin 6912)
  have e4 : G4 m c (((cfg0.win 4).rect t).emb y) = _ := congrArg (G4 m c) e1
  exact ((congrArg _ e2).trans e3).trans e4.symm

theorem flushed5 (t : Fin cfg0.N) :
    (dats m 0 c).flushed 5 t = ((cfg0.win 5).blk t).view.read (Elt Ideal) (G5 m c) := by
  show (cfg0.win 5).cut (grid0.coords t) ((dats m 0 c).after 5 t) = _
  rw [after0_5, iblk0_eq, iblk1_eq, iblk2_eq, iblk3_eq, out5_eq]
  funext y
  have hy0 : (y 0).val < 1536 := (y 0).isLt
  have hy1 : (y 1).val < 2560 := (y 1).isLt
  have e1 : ((cfg0.win 5).rect t).emb y = ix2 (⟨(y 0).val, hy0⟩ : Fin 1536) (⟨(y 1).val, hy1⟩ : Fin 2560) := Shape.idx_ext₂
    ((cfg0.win 5).rect_emb_val_of_index_zero t 0 (index_zero 5 t 0) y) ((cfg0.win 5).rect_emb_val_of_index_zero t 1 (index_zero 5 t 1) y)
  have e2 : (cfg0.win 5).xinj (grid0.coords t) y = ix2 (⟨(y 0).val, hy0⟩ : Fin 1536) (⟨(y 1).val, hy1⟩ : Fin 2560) := Shape.idx_ext₂ rfl rfl
  have e3 := pay6_apply (Xm m c) (⟨(y 0).val, hy0⟩ : Fin 1536) (hx _) (⟨(y 1).val, hy1⟩ : Fin 2560)
  have e4 : G5 m c (((cfg0.win 5).rect t).emb y) = _ := congrArg (G5 m c) e1
  exact ((congrArg _ e2).trans e3).trans e4.symm

theorem flushed6 (t : Fin cfg0.N) :
    (dats m 0 c).flushed 6 t = ((cfg0.win 6).blk t).view.read (Elt Ideal) (G6 m c) := by
  show (cfg0.win 6).cut (grid0.coords t) ((dats m 0 c).after 6 t) = _
  rw [after0_6, iblk0_eq, iblk1_eq, iblk2_eq, iblk3_eq, out6_eq]
  funext y
  have hy0 : (y 0).val < 1536 := (y 0).isLt
  have hy1 : (y 1).val < 80 := (y 1).isLt
  have e1 : ((cfg0.win 6).rect t).emb y = ix2 (⟨(y 0).val, hy0⟩ : Fin 1536) (⟨(y 1).val, hy1⟩ : Fin 80) := Shape.idx_ext₂
    ((cfg0.win 6).rect_emb_val_of_index_zero t 0 (index_zero 6 t 0) y) ((cfg0.win 6).rect_emb_val_of_index_zero t 1 (index_zero 6 t 1) y)
  have e2 : (cfg0.win 6).xinj (grid0.coords t) y = ix2 (⟨(y 0).val, hy0⟩ : Fin 1536) (⟨(y 1).val, hy1⟩ : Fin 80) := Shape.idx_ext₂ rfl rfl
  have e3 := pay4_apply (Xm m c) (⟨(y 0).val, hy0⟩ : Fin 1536) (⟨(y 1).val, hy1⟩ : Fin 80) (hx _)
  have e4 : G6 m c (((cfg0.win 6).rect t).emb y) = _ := congrArg (G6 m c) e1
  exact ((congrArg _ e2).trans e3).trans e4.symm

theorem arr4 : (dats m 0 c).arrAt 4 cfg0.N = G4 m c := by
  refine (dats m 0 c).arrAt_eq_of_cover 4 (G4 m c) (fun t _ => flushed4 m c hx t) fun i => ?_
  have h0 : (i 0).val < 1536 := (i 0).isLt
  have h1 : (i 1).val < 6912 := (i 1).isLt
  refine ⟨t0_0, flush0_4 _, ((cfg0.win 4).emb_mem_blk_iff _ i).mpr ?_⟩
  intro a
  match a with
  | ⟨0, _⟩ =>
    show (cfg0.win 4).index t0_0 0 * 1536 ≤ (i 0).val ∧ (i 0).val < (cfg0.win 4).index t0_0 0 * 1536 + 1536
    rw [index_zero 4 t0_0 0]; omega
  | ⟨1, _⟩ =>
    show (cfg0.win 4).index t0_0 1 * 6912 ≤ (i 1).val ∧ (i 1).val < (cfg0.win 4).index t0_0 1 * 6912 + 6912
    rw [index_zero 4 t0_0 1]; omega

theorem arr5 : (dats m 0 c).arrAt 5 cfg0.N = G5 m c := by
  refine (dats m 0 c).arrAt_eq_of_cover 5 (G5 m c) (fun t _ => flushed5 m c hx t) fun i => ?_
  have h0 : (i 0).val < 1536 := (i 0).isLt
  have h1 : (i 1).val < 2560 := (i 1).isLt
  refine ⟨t0_0, flush0_5 _, ((cfg0.win 5).emb_mem_blk_iff _ i).mpr ?_⟩
  intro a
  match a with
  | ⟨0, _⟩ =>
    show (cfg0.win 5).index t0_0 0 * 1536 ≤ (i 0).val ∧ (i 0).val < (cfg0.win 5).index t0_0 0 * 1536 + 1536
    rw [index_zero 5 t0_0 0]; omega
  | ⟨1, _⟩ =>
    show (cfg0.win 5).index t0_0 1 * 2560 ≤ (i 1).val ∧ (i 1).val < (cfg0.win 5).index t0_0 1 * 2560 + 2560
    rw [index_zero 5 t0_0 1]; omega

theorem arr6 : (dats m 0 c).arrAt 6 cfg0.N = G6 m c := by
  refine (dats m 0 c).arrAt_eq_of_cover 6 (G6 m c) (fun t _ => flushed6 m c hx t) fun i => ?_
  have h0 : (i 0).val < 1536 := (i 0).isLt
  have h1 : (i 1).val < 80 := (i 1).isLt
  refine ⟨t0_0, flush0_6 _, ((cfg0.win 6).emb_mem_blk_iff _ i).mpr ?_⟩
  intro a
  match a with
  | ⟨0, _⟩ =>
    show (cfg0.win 6).index t0_0 0 * 1536 ≤ (i 0).val ∧ (i 0).val < (cfg0.win 6).index t0_0 0 * 1536 + 1536
    rw [index_zero 6 t0_0 0]; omega
  | ⟨1, _⟩ =>
    show (cfg0.win 6).index t0_0 1 * 80 ≤ (i 1).val ∧ (i 1).val < (cfg0.win 6).index t0_0 1 * 80 + 80
    rw [index_zero 6 t0_0 1]; omega

end InRange

/-- The run: each result at its specification, the arguments unchanged. -/
theorem run_value (hx : ∀ c r b, InR (Xm m c) r b) :
    θ_run defs (onTc (τ := τ) (main (F := Ideal))) ⟨m, fun _ => 0, ρ⟩ (fun r => ∀ c : Dev nD,
      r.2.mem ((c.tc : Thread nD τ).loc main_v2_0) = G4 m c
      ∧ r.2.mem ((c.tc : Thread nD τ).loc main_v2_1) = G5 m c
      ∧ r.2.mem ((c.tc : Thread nD τ).loc main_v2_2) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(((h.1 c).1 4 : _ = _)).trans (arr4 m c (hx c)), (((h.1 c).1 5 : _ = _)).trans (arr5 m c (hx c)),
        (((h.1 c).1 6 : _ = _)).trans (arr6 m c (hx c)), h.2 c⟩)
    (θ_run_and (run_main m ρ) (unchanged m ρ))

end Cert.ReferenceIdeal.Val
-- ==== Proof.Algebraic.lean ====
/- THE VALUE CLAIM: on activations in the range, the idealized kernel and the reference leave equal results. -/
module

public import proofs.«01_k».proof.Defs
public import proofs.«01_k».proof.Proof.KerFinal
public import proofs.«01_k».proof.Proof.RefFinal
public import proofs.«01_k».proof.Proof.Pre

@[expose] public section

set_option maxRecDepth 16384

noncomputable section

namespace Cert.Alg

open Idealize.ShloMosaic Idealize.ShloMosaic.TcCoe
open Idealize.SL.Sem
open Cert.Spec

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The maximum of every block of the matrix is zero or in the range. -/
theorem inR_ker [Pre_in_range.Facts] (h : Pre_KernelIdeal_in_range m) (c : Dev KernelIdeal.nD) (r : Fin 1536) (b : Fin 80) :
    InR (KernelIdeal.Run.Xm m c) r b := by
  unfold KernelIdeal.Run.Xm
  exact Pre_in_range.inR_of_fn _ _ _ _ _ (h c) r b

/-- The two programs' matrices are one, -/
theorem Xm_eq (c : Dev KernelIdeal.nD)
    (h : m' ((c.tc : Thread ReferenceIdeal.nD ReferenceIdeal.τ).loc ReferenceIdeal.main_arg0)
      = m ((c.tc : Thread KernelIdeal.nD KernelIdeal.τ).loc KernelIdeal.main_arg0)) :
    ReferenceIdeal.Val.Xm m' c = KernelIdeal.Run.Xm m c := by
  unfold ReferenceIdeal.Val.Xm KernelIdeal.Run.Xm
  rw [h]

/-- and so are their rows of factors. -/
theorem Am_eq (c : Dev KernelIdeal.nD)
    (h : m' ((c.tc : Thread ReferenceIdeal.nD ReferenceIdeal.τ).loc ReferenceIdeal.main_arg3)
      = m ((c.tc : Thread KernelIdeal.nD KernelIdeal.τ).loc KernelIdeal.main_arg3)) :
    ReferenceIdeal.Val.Am m' c = KernelIdeal.Run.Am m c := by
  unfold ReferenceIdeal.Val.Am KernelIdeal.Run.Am
  rw [h]

theorem algebraic [Pre_in_range.Facts] : algebraic_KernelIdeal_ReferenceIdeal_pre_in_range := by
  intro m g m' g' hp hm
  have hx := inR_ker m hp
  have hX : ∀ c, ReferenceIdeal.Val.Xm m' c = KernelIdeal.Run.Xm m c := fun c => Xm_eq m m' c (hm c).1
  have hA : ∀ c, ReferenceIdeal.Val.Am m' c = KernelIdeal.Run.Am m c := fun c => Am_eq m m' c (hm c).2.2.2
  have hx' : ∀ c r b, InR (ReferenceIdeal.Val.Xm m' c) r b := fun c r b => by rw [hX]; exact hx c r b
  have h4 : ∀ c, ReferenceIdeal.Val.G4 m' c = KernelIdeal.Run.G4 m c := fun c => by
    unfold ReferenceIdeal.Val.G4 KernelIdeal.Run.G4
    rw [hX, hA, (hm c).2.1, (hm c).2.2.1]
  have h5 : ∀ c, ReferenceIdeal.Val.G5 m' c = KernelIdeal.Run.G5 m c := fun c => by
    unfold ReferenceIdeal.Val.G5 KernelIdeal.Run.G5
    rw [hX]
  have h6 : ∀ c, ReferenceIdeal.Val.G6 m' c = KernelIdeal.Run.G6 m c := fun c => by
    unfold ReferenceIdeal.Val.G6 KernelIdeal.Run.G6
    rw [hX]
  refine ⟨KernelIdeal.Run.G4 m, KernelIdeal.Run.G5 m, KernelIdeal.Run.G6 m, KernelIdeal.Run.run_value m g hx, ?_⟩
  exact (θ_run _ _ _).mono (fun r h c =>
    ⟨(h c).1.trans (h4 c), (h c).2.1.trans (h5 c), (h c).2.2.1.trans (h6 c), (h c).2.2.2⟩) (ReferenceIdeal.Val.run_value m' g' hx')

end Cert.Alg
-- ==== Proof.lean ====
module

public import proofs.«01_k».proof.Defs
public import proofs.«01_k».proof.Proof.Pair
public import proofs.«01_k».proof.Proof.Frame
public import proofs.«01_k».proof.Proof.KFrame
public import proofs.«01_k».proof.Proof.Pre
public import proofs.«01_k».proof.Proof.Algebraic

@[expose] public section

/-- The claim: the three frames, the sanctioned rewrite of the idealized kernel, and the equality of the results. -/
theorem Cert.Proof.claim : Cert.Claim :=
  ⟨Cert.Kernel.Gen.facts, Cert.KernelIdeal.Gen.facts, Cert.ReferenceIdeal.Gen.facts, Cert.Pre_in_range.facts,
    fun m g _ => Cert.Kernel.Run.frame m g,
    fun m g _ => Cert.KernelIdeal.Run.frame m g, fun m g _ => Cert.KernelIdeal.Run.frame m g,
    fun m g _ => Cert.ReferenceIdeal.Gen.frame m g, fun m g _ => Cert.ReferenceIdeal.Gen.frame m g,
    Cert.KernelIdeal.preserves, @Cert.Alg.algebraic Cert.Pre_in_range.facts⟩
